-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 16384, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 1024]⟩ ⟨3, ![2, 16384, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S2x512x1024 : Shape := ⟨3, ![2, 512, 1024]⟩
abbrev S2x3x1024 : Shape := ⟨3, ![2, 3, 1024]⟩
abbrev S_ : Shape := ⟨0, ![]⟩
abbrev S2x515x1024 : Shape := ⟨3, ![2, 515, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S4x1024, .f32⟩
  | .hbm, ⟨2, _⟩ => ⟨S2x4096x1024, .bf16⟩
  | .local _ .vmem, ⟨0, _⟩ => ⟨S2x512x1024, .f32⟩
  | .local _ .vmem, ⟨1, _⟩ => ⟨S2x512x1024, .f32⟩
  | .local _ .vmem, ⟨2, _⟩ => ⟨S4x1024, .f32⟩
  | .local _ .vmem, ⟨3, _⟩ => ⟨S2x512x1024, .bf16⟩
  | .local _ .vmem, ⟨4, _⟩ => ⟨S2x512x1024, .bf16⟩
  | .local _ .vmem, ⟨5, _⟩ => ⟨S2x3x1024, .f32⟩
  | .local _ .vmem, ⟨6, _⟩ => ⟨S2x3x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  let v58 : BitVec 1 := Scalar.cmpi .sgt v2 c0_i32_20
  let v59 : BitVec 32 := Scalar.extui v58
  let c0_i32_21 : BitVec 32 := 0#32
  let v60 : BitVec 1 := Scalar.cmpi .ne v59 c0_i32_21
  v60

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v69 : BitVec 32 := Scalar.subi v2 c1_i32_30
  let c1_i32_32 : BitVec 32 := 1#32
  let v70 : BitVec 32 := Scalar.muli v69 c1_i32_32
  let v71 : BitVec 32 := Scalar.addi c0_i32_33 v70
  v71.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v61 : BitVec 1 := Scalar.cmpi .slt v2 c3_i32
  let v62 : BitVec 32 := Scalar.extui v61
  let c0_i32_22 : BitVec 32 := 0#32
  let v63 : BitVec 1 := Scalar.cmpi .ne v62 c0_i32_22
  v63

def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v69 : BitVec 32 := Scalar.addi v2 c1_i32_30
  let c1_i32_32 : BitVec 32 := 1#32
  let v70 : BitVec 32 := Scalar.muli v69 c1_i32_32
  let v71 : BitVec 32 := Scalar.addi c0_i32_33 v70
  v71.toNat
def k0_amt1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_20 : BitVec 32 := 0#32
  let v58 : BitVec 1 := Scalar.cmpi .sgt v2 c0_i32_20
  let c1_i32_21 : BitVec 32 := 1#32
  let c0_i32_22 : BitVec 32 := 0#32
  let v59 : BitVec 32 := Scalar.select v58 c1_i32_21 c0_i32_22
  let c3_i32 : BitVec 32 := 3#32
  let v60 : BitVec 1 := Scalar.cmpi .slt v2 c3_i32
  let c1_i32_23 : BitVec 32 := 1#32
  let c0_i32_24 : BitVec 32 := 0#32
  let v61 : BitVec 32 := Scalar.select v60 c1_i32_23 c0_i32_24
  let v62 : BitVec 32 := Scalar.addi v59 v61
  v62

def k0_cond5 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_1 : BitVec 32 := 0#32
  let v8 : BitVec 1 := Scalar.cmpi .ne v7 c0_i32_1
  v8

def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_25 : BitVec 32 := 3#32
  let v63 : BitVec 1 := Scalar.cmpi .slt v2 c3_i32_25
  let v64 : BitVec 32 := Scalar.extui v63
  let c0_i32_26 : BitVec 32 := 0#32
  let v65 : BitVec 1 := Scalar.cmpi .ne v64 c0_i32_26
  v65

def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v66 : BitVec 32 := Scalar.addi v2 c1_i32_27
  let c4_i32_28 : BitVec 32 := 4#32
  let c0_i32_29 : BitVec 32 := 0#32
  let v67 : BitVec 1 := Scalar.cmpi .eq c4_i32_28 c0_i32_29
  let c1_i32_30 : BitVec 32 := 1#32
  let v68 : BitVec 32 := Scalar.select v67 c1_i32_30 c4_i32_28
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c1_i32_34 : BitVec 32 := 1#32
  let v77 : BitVec 32 := Scalar.muli v76 c1_i32_34
  let v78 : BitVec 32 := Scalar.addi c0_i32_35 v77
  v78.toNat
def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![c0_i32_4.toNat, v10.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![c0_i32_4.toNat, v10.toNat, c0_i32_5.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x16384x1024 : Shape := ⟨3, ![2, 16384, 1024]⟩
abbrev S4x1024 : Shape := ⟨2, ![4, 1024]⟩
abbrev S_ : Shape := ⟨0, ![]⟩
abbrev S2x3x1024 : Shape := ⟨3, ![2, 3, 1024]⟩
abbrev S2x16387x1024 : Shape := ⟨3, ![2, 16387, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S_, .f32⟩
  | .hbm, ⟨3, _⟩ => ⟨S2x3x1024, .f32⟩
  | .hbm, ⟨4, _⟩ => ⟨S2x16387x1024, .f32⟩
  | .hbm, ⟨5, _⟩ => ⟨S_, .f32⟩
  | .hbm, ⟨6, _⟩ => ⟨S2x16384x1024, .f32⟩
  | .hbm, ⟨7, _⟩ => ⟨S2x16384x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Proof.Protocol.lean ====
/-
  The talk between the four devices, as a protocol.

  Device c keeps, in a scratch buffer of its own (the HALO), the last three rows of its left neighbour's array; device 0
  keeps zeros there. At the first grid step c tells each neighbour that it is ready; the right neighbour's word is also the
  permission to write into that neighbour's halo. At the third step c waits for both words and starts the copy; at the last
  step it waits for the copy into its own halo and for its own copy to have left.

  Between the first and the last step the kernel LOADS its halo at every step (and throws the value away), while the copy
  may be under way. So the halo is neither given away nor kept: at the first step it enters WRITE MODE, towards the rows
  that will land in it, half of it goes to the left neighbour with the signal, and the other half stays, which is enough to
  load from it. When the copy has landed the two halves make the whole again, at the rows landed.

  The cells of a device: the barrier's, and those of the three DMA semaphores (send, receive, local copy).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.WriteMode
public import Idealize.ShloMosaic.Lib.Rounds
public import Idealize.ShloMosaic.Lib.Tactic

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline's rounds, the talk's rounds (two duties a round at most), write mode -/

abbrev UB : Type := URounds (GSem nD τ sig) Bool
abbrev UU (F : FTy → Type) : Type := UR sig nD τ × (UB × WmRA nD τ sig (Elt F))

local notation "𝕄" => MT nD τ sig Unit (Elt F) ℕ (UU F) ℕ

abbrev EP : Emb (UR sig nD τ) 𝕄 := embL
/-- Write mode's place in the algebra. -/
abbrev EW (F : FTy → Type) : UEmb (WmRA nD τ sig (Elt F)) (UU F) := UEmb.inr.trans UEmb.inr
/-- The talk's place in it. -/
abbrev EB (F : FTy → Type) : UEmb UB (UU F) := UEmb.inl.trans UEmb.inr
abbrev ER : Emb UB 𝕄 := ((EB F).trans uEmb).toEmb

variable (m : (ℓ : Loc nD τ sig) → Buf (Elt F) ℓ) (ρ : Dev nD → PrngReg)

/-! ## The devices in a row -/

/-- The device to the left and the device to the right, counted round. -/
def pv (c : Dev nD) : Dev nD := ⟨(c.val + 3) % 4, Nat.mod_lt _ (by decide)⟩
def nx (c : Dev nD) : Dev nD := ⟨(c.val + 1) % 4, Nat.mod_lt _ (by decide)⟩
theorem pv_nx (c : Dev nD) : pv (nx c) = c := by revert c; decide
theorem nx_pv (c : Dev nD) : nx (pv c) = c := by revert c; decide
def ring : Dev nD ≃ Dev nD := ⟨nx, pv, pv_nx, nx_pv⟩

/-- Has a left neighbour; has a right neighbour. -/
abbrev hasL (c : Dev nD) : Prop := 0 < c.val
abbrev hasR (c : Dev nD) : Prop := c.val < 3
theorem hasL_nx : ∀ c : Dev nD, hasR c → hasL (nx c) := by decide
theorem hasR_pv : ∀ c : Dev nD, hasL c → hasR (pv c) := by decide

/-! ## Buffers, cells, contents -/

abbrev haloM : Memref sig .tc .vmem S2x3x1024 .f32 := Memref.whole cc0_scratch1
abbrev tailM : Memref sig .tc .vmem S2x3x1024 .f32 := Memref.whole cc0_scratch0
abbrev xM : Memref sig .tc .hbm S2x4096x1024 .f32 := Memref.whole main_arg0
/-- Rows 509–511 and rows 4093–4095 of a device's array. -/
abbrev rowsA : Memref sig .tc .hbm S2x3x1024 .f32 :=
  xM.slice (Rect.unit (s := S2x4096x1024) ![0, 509, 0] S2x3x1024.size inb_S2x4096x1024_S2x3x1024_0_509_0) (fun _ => rfl)
abbrev rowsB : Memref sig .tc .hbm S2x3x1024 .f32 :=
  xM.slice (Rect.unit (s := S2x4096x1024) ![0, 4093, 0] S2x3x1024.size inb_S2x4096x1024_S2x3x1024_0_4093_0) (fun _ => rfl)

abbrev barCell (c : Dev nD) : GSem nD τ sig := ((c : Thread nD τ), .reg barrier0)
abbrev sendCell (c : Dev nD) : GSem nD τ sig := ((c : Thread nD τ), .dma cc0_scratch2.sem)
abbrev recvCell (c : Dev nD) : GSem nD τ sig := ((c : Thread nD τ), .dma cc0_scratch3.sem)
abbrev locCell (c : Dev nD) : GSem nD τ sig := ((c : Thread nD τ), .dma cc0_scratch4.sem)

/-- The credit of a copy of three rows. -/
abbrev N : ℕ := haloM.view.dmaCredit
theorem N_pos : 0 < N := View.dmaCredit_pos _ (by decide)

/-- A device's array. -/
abbrev xOf (c : Dev nD) : Buf (Elt F) ((c : Thread nD τ).loc main_arg0) := m ((c : Thread nD τ).loc main_arg0)
/-- The rows that land in device c's halo: the left neighbour's last three. -/
def landed (c : Dev nD) : Buf (Elt F) (haloM.view.loc (c : Thread nD τ)) := rowsB.view.read (Elt F) (xOf m (pv c))
/-- What the halo of device c holds in the end. -/
def haloRows (c : Dev nD) : Buf (Elt F) (haloM.view.loc (c : Thread nD τ)) := if hasL c then landed m c else k0_pay3 (F := F)

abbrev haloPts (c : Dev nD) (f : Buf (Elt F) (haloM.view.loc (c : Thread nD τ))) : sProp 𝕄 :=
  haloM.view.loc (c : Thread nD τ) ↦[haloM.view.set]{fullShare} f
abbrev tailPts (c : Dev nD) (f : Buf (Elt F) (tailM.view.loc (c : Thread nD τ))) : sProp 𝕄 :=
  tailM.view.loc (c : Thread nD τ) ↦[tailM.view.set]{fullShare} f
/-- Share `q` of device c's halo in write mode: it held `f`, will hold the rows that land, and is written on `W`. -/
abbrev haloWill (c : Dev nD) (q : PosShare TreeShare) (f : Buf (Elt F) (haloM.view.loc (c : Thread nD τ)))
    (W : Finset (Idx (haloM.view.loc (c : Thread nD τ)))) : sProp 𝕄 :=
  willBeTo (EW F) (haloM.view.loc (c : Thread nD τ)) haloM.view.set q f (fun i => some (landed m c i)) W

/-- The kept quarters of a device's array from which its two copies read. -/
abbrev srcA (c : Dev nD) : sProp 𝕄 := rowsA.view.loc (c : Thread nD τ) ↦[rowsA.view.set]{fullShare.right.left} xOf m c
abbrev srcB (c : Dev nD) : sProp 𝕄 := rowsB.view.loc (c : Thread nD τ) ↦[rowsB.view.set]{fullShare.right.right} xOf m c

/-! ## The schedule -/

/-- The right neighbour's word to device c: half of the neighbour's halo, in write mode, and that the neighbour's receive
    cell is open. -/
def readyPay (c : Dev nD) : sProp 𝕄 :=
  iprop((∃ f, haloWill m (nx c) fullShare.left f ∅) ∗ reached ER (recvCell (nx c)) 0)
/-- What the landed copy pays device c: that half, every row written. -/
def recvPay (c : Dev nD) : sProp 𝕄 := iprop(∃ f, haloWill m c fullShare.left f (∅ ∪ haloM.view.set))
/-- What the local copy pays: the tail buffer at the rows copied. -/
def locPay (c : Dev nD) : sProp 𝕄 := tailPts c (rowsA.view.read (Elt F) (xOf m c))

/-- Who pays what in the one round there is. On a barrier cell: `true` the left neighbour's word, `false` the right one's. -/
def dutiesOf (c : Dev nD) (sm : SemLoc sig) : Finset Bool :=
  if sm = .reg barrier0 then (if hasL c then {true} else ∅) ∪ (if hasR c then {false} else ∅)
  else if sm = .dma cc0_scratch3.sem then (if hasL c then {false} else ∅)
  else if sm = .dma cc0_scratch2.sem then (if hasR c then {false} else ∅)
  else if sm = .dma cc0_scratch4.sem then {false}
  else ∅

def Rd : Rounds.Schedule (GSem nD τ sig) Bool 𝕄 where
  duties g r := if r = 0 ∧ g.1.2 = .tc then dutiesOf g.1.1 g.2 else ∅
  unitless _ := False
  amount g _ _ := if g.2 = .reg barrier0 then 1 else N
  payload g _ d :=
    if g.2 = .reg barrier0 then (if d then iprop(emp) else readyPay m g.1.1)
    else if g.2 = .dma cc0_scratch3.sem then recvPay m g.1.1
    else if g.2 = .dma cc0_scratch4.sem then locPay m g.1.1
    else iprop(emp)
  amount_pos g _ _ _ := by
    by_cases h : g.2 = .reg barrier0
    · rw [if_pos h]; exact Nat.one_pos
    · rw [if_neg h]; exact N_pos

instance Rd_payload_storable (g : GSem nD τ sig) (r : ℕ) (d : Bool) :
    BI.Storable (upEmb : UEmb _ 𝕄) ((Rd (F := F) m).payload g r d) := by
  show BI.Storable upEmb (if g.2 = .reg barrier0 then (if d then iprop(emp) else readyPay m g.1.1)
    else if g.2 = .dma cc0_scratch3.sem then recvPay m g.1.1
    else if g.2 = .dma cc0_scratch4.sem then locPay m g.1.1 else iprop(emp))
  unfold readyPay recvPay locPay
  (repeat' split) <;> infer_instance

section Sched

variable (c : Dev nD)

theorem recv_ne_bar : (SemLoc.dma cc0_scratch3.sem : SemLoc sig) ≠ .reg barrier0 := fun h => by cases h
theorem send_ne_bar : (SemLoc.dma cc0_scratch2.sem : SemLoc sig) ≠ .reg barrier0 := fun h => by cases h
theorem loc_ne_bar : (SemLoc.dma cc0_scratch4.sem : SemLoc sig) ≠ .reg barrier0 := fun h => by cases h
theorem send_ne_recv : (SemLoc.dma cc0_scratch2.sem : SemLoc sig) ≠ .dma cc0_scratch3.sem := by decide
theorem loc_ne_recv : (SemLoc.dma cc0_scratch4.sem : SemLoc sig) ≠ .dma cc0_scratch3.sem := by decide
theorem loc_ne_send : (SemLoc.dma cc0_scratch4.sem : SemLoc sig) ≠ .dma cc0_scratch2.sem := by decide

theorem duties_zero (sm : SemLoc sig) : (Rd (F := F) m).duties ((c : Thread nD τ), sm) 0 = dutiesOf c sm := by
  dsimp only [Rd]; exact if_pos ⟨rfl, rfl⟩
theorem duties_later (g : GSem nD τ sig) : ∀ r, 1 ≤ r → (Rd (F := F) m).duties g r = ∅ :=
  fun r hr => by dsimp only [Rd]; exact if_neg (fun h => by omega)

theorem dutiesOf_bar : dutiesOf c (.reg barrier0) = (if hasL c then {true} else ∅) ∪ (if hasR c then {false} else ∅) := if_pos rfl
theorem dutiesOf_recv : dutiesOf c (.dma cc0_scratch3.sem) = if hasL c then {false} else ∅ := by
  unfold dutiesOf; rw [if_neg recv_ne_bar, if_pos rfl]
theorem dutiesOf_send : dutiesOf c (.dma cc0_scratch2.sem) = if hasR c then {false} else ∅ := by
  unfold dutiesOf; rw [if_neg send_ne_bar, if_neg send_ne_recv, if_pos rfl]
theorem dutiesOf_loc : dutiesOf c (.dma cc0_scratch4.sem) = {false} := by
  unfold dutiesOf; rw [if_neg loc_ne_bar, if_neg loc_ne_recv, if_neg loc_ne_send, if_pos rfl]

theorem mem_bar_true (h : hasL c) : true ∈ (Rd (F := F) m).duties (barCell c) 0 := by
  rw [duties_zero, dutiesOf_bar, if_pos h]; exact Finset.mem_union_left _ (Finset.mem_singleton_self _)
theorem mem_bar_false (h : hasR c) : false ∈ (Rd (F := F) m).duties (barCell c) 0 := by
  rw [duties_zero, dutiesOf_bar, if_pos h]; exact Finset.mem_union_right _ (Finset.mem_singleton_self _)
theorem mem_recv (h : hasL c) : false ∈ (Rd (F := F) m).duties (recvCell c) 0 := by
  rw [duties_zero, dutiesOf_recv, if_pos h]; exact Finset.mem_singleton_self _
theorem mem_send (h : hasR c) : false ∈ (Rd (F := F) m).duties (sendCell c) 0 := by
  rw [duties_zero, dutiesOf_send, if_pos h]; exact Finset.mem_singleton_self _
theorem mem_loc : false ∈ (Rd (F := F) m).duties (locCell c) 0 := by
  rw [duties_zero, dutiesOf_loc]; exact Finset.mem_singleton_self _

theorem duties_recv_none (h : ¬ hasL c) : ∀ r, 0 ≤ r → (Rd (F := F) m).duties (recvCell c) r = ∅ := fun r _ => by
  rcases Nat.eq_zero_or_pos r with rfl | hr
  · rw [duties_zero, dutiesOf_recv, if_neg h]
  · exact duties_later m _ r hr
theorem duties_send_none (h : ¬ hasR c) : ∀ r, 0 ≤ r → (Rd (F := F) m).duties (sendCell c) r = ∅ := fun r _ => by
  rcases Nat.eq_zero_or_pos r with rfl | hr
  · rw [duties_zero, dutiesOf_send, if_neg h]
  · exact duties_later m _ r hr

theorem amount_bar (d : Bool) : (Rd (F := F) m).amount (barCell c) 0 d = 1 := by dsimp only [Rd]; exact if_pos rfl
theorem amount_recv (d : Bool) : (Rd (F := F) m).amount (recvCell c) 0 d = N := by dsimp only [Rd]; exact if_neg recv_ne_bar
theorem amount_send (d : Bool) : (Rd (F := F) m).amount (sendCell c) 0 d = N := by dsimp only [Rd]; exact if_neg send_ne_bar
theorem amount_loc (d : Bool) : (Rd (F := F) m).amount (locCell c) 0 d = N := by dsimp only [Rd]; exact if_neg loc_ne_bar

theorem payload_bar (d : Bool) : (Rd (F := F) m).payload (barCell c) 0 d = if d then iprop(emp) else readyPay m c := by
  dsimp only [Rd]; exact if_pos rfl
theorem payload_recv (d : Bool) : (Rd (F := F) m).payload (recvCell c) 0 d = recvPay m c := by
  dsimp only [Rd]; rw [if_neg recv_ne_bar, if_pos rfl]
theorem payload_loc (d : Bool) : (Rd (F := F) m).payload (locCell c) 0 d = locPay m c := by
  dsimp only [Rd]; rw [if_neg loc_ne_bar, if_neg loc_ne_recv, if_pos rfl]
theorem payload_send (d : Bool) : (Rd (F := F) m).payload (sendCell c) 0 d = iprop(emp) := by
  dsimp only [Rd]; rw [if_neg send_ne_bar, if_neg send_ne_recv, if_neg loc_ne_send.symm]

/-- How many neighbours speak to device c. -/
def nbrs (c : Dev nD) : ℕ := (if hasL c then 1 else 0) + (if hasR c then 1 else 0)

theorem expect_bar : (Rd (F := F) m).expect (barCell c) 0 = nbrs c := by
  unfold Schedule.expect Schedule.amountOf nbrs
  rw [Finset.sum_congr rfl (fun d _ => amount_bar m c d), duties_zero, dutiesOf_bar, Finset.sum_const, smul_eq_mul, mul_one]
  by_cases h : hasL c <;> by_cases h' : hasR c <;> simp [h, h']
theorem expect_recv (h : hasL c) : (Rd (F := F) m).expect (recvCell c) 0 = N := by
  unfold Schedule.expect Schedule.amountOf
  rw [duties_zero, dutiesOf_recv, if_pos h, Finset.sum_singleton, amount_recv]
theorem expect_send (h : hasR c) : (Rd (F := F) m).expect (sendCell c) 0 = N := by
  unfold Schedule.expect Schedule.amountOf
  rw [duties_zero, dutiesOf_send, if_pos h, Finset.sum_singleton, amount_send]
theorem expect_loc : (Rd (F := F) m).expect (locCell c) 0 = N := by
  unfold Schedule.expect Schedule.amountOf
  rw [duties_zero, dutiesOf_loc, Finset.sum_singleton, amount_loc]

theorem rest_bar (h : hasR c) :
    bigSep ((Rd (F := F) m).duties (barCell c) 0 \ ∅) (fun d => (Rd (F := F) m).payload (barCell c) 0 d) ⊢ readyPay m c := by
  rw [Finset.sdiff_empty]
  exact (bigSep_elim (mem_bar_false m c h)).trans (Entails.of_eq (payload_bar m c false))
theorem rest_recv (h : hasL c) :
    bigSep ((Rd (F := F) m).duties (recvCell c) 0 \ ∅) (fun d => (Rd (F := F) m).payload (recvCell c) 0 d) = recvPay m c := by
  rw [Finset.sdiff_empty, duties_zero, dutiesOf_recv, if_pos h, bigSep_singleton, payload_recv]
theorem rest_loc :
    bigSep ((Rd (F := F) m).duties (locCell c) 0 \ ∅) (fun d => (Rd (F := F) m).payload (locCell c) 0 d) = locPay m c := by
  rw [Finset.sdiff_empty, duties_zero, dutiesOf_loc, bigSep_singleton, payload_loc]

end Sched

/-! ## What each device owes at launch; the levels -/

/-- The copy into the right neighbour's halo; the word to the right neighbour; the word to the left one. -/
def oRecv (c : Dev nD) : CellTallies nD τ sig Unit := if hasR c then tallyAt (recvCell (nx c)) () N else 0
def oNx (c : Dev nD) : CellTallies nD τ sig Unit := if hasR c then tallyAt (barCell (nx c)) () 1 else 0
def oPv (c : Dev nD) : CellTallies nD τ sig Unit := if hasL c then tallyAt (barCell (pv c)) () 1 else 0
def O₀ (c : Dev nD) : CellTallies nD τ sig Unit := oRecv c + oNx c + oPv c

def L (g : GSem nD τ sig) : Finset Unit := if g.1.2 = .tc then {()} else ∅
/-- Barrier cells at 1, receive cells at 2, the rest at 0. -/
def lv (g : GSem nD τ sig) (_ : Unit) : ℕ := if g.2 = .reg barrier0 then 1 else if g.2 = .dma cc0_scratch3.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

theorem lv_recv (c : Dev nD) (u : Unit) : lv (recvCell c) u = 2 := by unfold lv; rw [if_neg recv_ne_bar, if_pos rfl]
theorem lv_bar (c : Dev nD) (u : Unit) : lv (barCell c) u = 1 := by unfold lv; rw [if_pos rfl]

/-- Where a sum of tallies is positive one of them is; where a tally is, that is its cell. -/
theorem tally_pos {g' g : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)
theorem oRecv_pos {c : Dev nD} {g : GSem nD τ sig} {u : Unit} (h : 0 < oRecv c g u) : g = recvCell (nx c) := by
  unfold oRecv at h
  split at h
  · exact tally_pos h
  · exact absurd h (Nat.lt_irrefl 0)
theorem O₀_pos {c : Dev nD} {g : GSem nD τ sig} {u : Unit} (h : 0 < O₀ c g u) :
    g = recvCell (nx c) ∨ g = barCell (nx c) ∨ g = barCell (pv c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact .inl (oRecv_pos h)
    · unfold oNx at h
      split at h
      · exact .inr (.inl (tally_pos h))
      · exact absurd h (Nat.lt_irrefl 0)
  · unfold oPv at h
    split at h
    · exact .inr (.inr (tally_pos h))
    · exact absurd h (Nat.lt_irrefl 0)

/-- While it owes only the copy into the neighbour's halo, a device may wait on any cell of its own below the receive cell. -/
theorem mayWait_low (c : Dev nD) (sm : SemLoc sig) (hsm : lv ((c : Thread nD τ), sm) () ≤ 1) :
    (levAts L lv : sProp 𝕄) ⊢ MayWait (c : Thread nD τ) sm () (oRecv c) :=
  MayOwe.of_cut (L := L) (lev := lv) 1 (fun p hp => by rw [Finset.mem_singleton.mp hp]; exact mem_L _ _ _)
    (fun g u hg => by rw [oRecv_pos hg]; exact mem_L _ _ _)
    (fun p hp => by rw [Finset.mem_singleton.mp hp]; exact hsm)
    (fun g u hg => by rw [oRecv_pos hg, lv_recv]; decide)

end Cert.KernelIdeal.Conv

end
-- ==== Proof.Points.lean ====
/-
  The kernel's conditions and device numbers in closed form: which grid step it is, which device, who the neighbours are.
-/
module

public import proofs.«01_k».proof.Proof.Protocol

@[expose] public section

noncomputable section

namespace Cert.KernelIdeal.Conv

open Cert.KernelIdeal Cert.KernelIdeal.Gen
open Idealize.ShloMosaic Idealize.ShloMosaic.TcCoe

/-! ## The step -/

theorem cond1_iff (t : Fin grid0.N) : k0_cond1 (grid0.coords t) = 1#1 ↔ t.val = 0 := by revert t; decide +kernel
theorem cond5_iff (t : Fin grid0.N) : k0_cond5 (grid0.coords t) = 1#1 ↔ t.val = 2 := by revert t; decide +kernel
theorem last_iff (t : Fin grid0.N) :
    Scalar.cmpi .ne (Scalar.extui (Scalar.cmpi .eq (BitVec.ofNat 32 (grid0.coords t 0).val) 7#32) : BitVec 32) 0#32 = 1#1 ↔ t.val = 7 := by
  revert t; decide +kernel
theorem eq_seven_iff (t : Fin grid0.N) : Scalar.cmpi .eq (BitVec.ofNat 32 (grid0.coords t 0).val) 7#32 = 1#1 ↔ t.val = 7 := by
  revert t; decide +kernel

/-! ## The device -/

/-- The device's place in the row, as the kernel computes it. -/
abbrev place (c : Dev nD) : BitVec 32 := Scalar.remsi (Scalar.divsi (Dev.word c) 1#32) 4#32

theorem cond2_iff (c : Dev nD) : k0_cond2 c = 1#1 ↔ hasL c := by revert c; decide +kernel
theorem cond3_iff (c : Dev nD) : k0_cond3 c = 1#1 ↔ hasR c := by revert c; decide +kernel
theorem cond6_iff (c : Dev nD) : k0_cond6 c = 1#1 ↔ hasR c := by revert c; decide +kernel
theorem first_iff (c : Dev nD) :
    Scalar.cmpi .ne (Scalar.extui (Scalar.cmpi .eq (place c) 0#32) : BitVec 32) 0#32 = 1#1 ↔ ¬ hasL c := by revert c; decide +kernel
theorem placeL_iff (c : Dev nD) :
    Scalar.cmpi .ne (Scalar.extui (Scalar.cmpi .sgt (place c) 0#32) : BitVec 32) 0#32 = 1#1 ↔ hasL c := by revert c; decide +kernel
theorem placeR_iff (c : Dev nD) :
    Scalar.cmpi .ne (Scalar.extui (Scalar.cmpi .slt (place c) 3#32) : BitVec 32) 0#32 = 1#1 ↔ hasR c := by revert c; decide +kernel

theorem dev1_eq : ∀ c : Dev nD, hasL c → k0_dev1 c = (pv c).val := by decide +kernel
theorem dev2_eq : ∀ c : Dev nD, hasR c → k0_dev2 c = (nx c).val := by decide +kernel
theorem dev3_eq : ∀ c : Dev nD, hasR c → k0_dev3 c = (nx c).val := by decide +kernel
theorem amt_eq : ∀ c : Dev nD, (k0_amt1 c).toNat = nbrs c := by decide +kernel

end Cert.KernelIdeal.Conv

end
-- ==== Proof.Ops.lean ====
/-
  Loads and stores of whole buffers, and the arithmetic half of a grid step: four loads, the block's result, the stores of
  the result and of the block's last three rows.
-/
module

public import proofs.«01_k».proof.Proof.Points

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

abbrev 𝒱₀ : Variants := Variants.none

/-! ## A window that is the whole of a view -/

section Full

variable {κ : Kind} {sp : Space} {s : Shape} {e : EltTy} {off : Fin s.rank → ℕ}

theorem emb_full (h : off = fun _ => 0) (inb : ∀ a, off a + s.size a ≤ s.size a) (x : s.Idx) :
    (Rect.unit (s := s) off s.size inb).emb x = x := by
  subst h; exact Rect.emb_whole_apply _ x

theorem read_full (M : Memref sig κ sp s e) (h : off = fun _ => 0) (inb : ∀ a, off a + s.size a ≤ s.size a)
    (f : M.view.ty.Contents (Elt F)) :
    (M.access (Rect.unit (s := s) off s.size inb)).read (Elt F) f = M.view.read (Elt F) f := by
  subst h
  funext x
  show (M.access (Rect.whole s)).read (Elt F) f x = _
  rw [View.read_apply, View.read_apply]
  have he : (M.access (Rect.whole s)).emb x = M.view.emb x := congrArg M.view.emb (Rect.emb_whole_apply _ x)
  rw [he]

theorem read_write_full (M : Memref sig κ sp s e) (h : off = fun _ => 0) (inb : ∀ a, off a + s.size a ≤ s.size a)
    (f : M.view.ty.Contents (Elt F)) (w : s.Idx → Elt F e) :
    M.view.read (Elt F) ((M.access (Rect.unit (s := s) off s.size inb)).write (Elt F) f w Finset.univ) = w := by
  funext y
  conv_lhs => rw [← emb_full h inb y]
  exact View.read_slice_write_emb _ _ _ (Finset.mem_univ _)

end Full

section Rules

variable (c : Dev nD) {s : Shape} {e : EltTy} {off : Fin s.rank → ℕ}

/-- Loading the whole of a buffer one owns. -/
theorem wp_load_owns {cs : CoreSpace} {M : Memref sig .tc cs s e} {inb : ∀ a, off a + s.size a ≤ s.size a}
    {hl : M.view.LoadsAt (Rect.unit (s := s) off s.size inb).toLoadRect}
    {k : (s.Idx → Elt F e) → Prog (TpuEff nD τ sig (Elt F) Λ₀ .tc) PUnit}
    {q : PosShare TreeShare} {X : s.Idx → Elt F e} {Q : PUnit → sProp 𝕄} (h : off = fun _ => 0) :
    (owns (c : Thread nD τ) M q X : sProp 𝕄)
      ⊢ iprop((owns (c : Thread nD τ) M q X -∗ wp frame (wpE (defs₀ (F := F)) 𝒱₀ (c : Thread nD τ) none) Set.univ (k X) Q)
        -∗ wp frame (wpE (defs₀ (F := F)) 𝒱₀ (c : Thread nD τ) none) Set.univ
            (.op (.load M (Rect.unit (s := s) off s.size inb).toLoadRect hl) k) Q) := by
  unfold owns
  iintro ⟨%f, %hf, Hf⟩ Hk
  iapply (wp_load_rect 𝒱₀ (c : Thread nD τ) none Set.univ (m := M) (r := Rect.unit (s := s) off s.size inb)
    (View.set_slice_subset _ _)) $$ Hf
  iintro Hf
  rw [read_full M h inb f, hf]
  iapply Hk
  iexists f
  isplitr
  · ipureintro; exact hf
  iexact Hf

/-- Storing over the whole of a buffer one owns. -/
theorem wp_store_owns {cs : CoreSpace} {M : Memref sig .tc cs s e} {inb : ∀ a, off a + s.size a ≤ s.size a}
    {w : s.Idx → Elt F e} {hx : (M.access (Rect.unit (s := s) off s.size inb)).Stores Finset.univ}
    {hm : (Finset.univ : Finset (Rect.unit (s := s) off s.size inb).shape.Idx) = Finset.univ ∨
      ∀ a, (Rect.unit (s := s) off s.size inb).stride a = 1}
    {k : PUnit → Prog (TpuEff nD τ sig (Elt F) Λ₀ .tc) PUnit}
    {X : s.Idx → Elt F e} {Q : PUnit → sProp 𝕄} (h : off = fun _ => 0) :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := s) off s.size inb) w Finset.univ hx hm) k) Q) := by
  unfold owns
  iintro ⟨%f, -, Hf⟩ Hk
  iapply (wp_store 𝒱₀ (c : Thread nD τ) none Set.univ (m := M) (r := Rect.unit (s := s) off s.size inb) (Mk := Finset.univ)
    (View.set_slice_subset _ _)) $$ Hf
  iintro Hf
  iapply Hk
  iexists _
  isplitr
  · ipureintro; exact read_write_full M h inb f w
  iexact Hf

/-- A whole buffer held is owned at its contents. -/
theorem owns_whole (b : Ref sig .tc) (q : PosShare TreeShare) (f : Buf (Elt F) ((Memref.whole b).view.loc (c : Thread nD τ))) :
    (((Memref.whole b).view.loc (c : Thread nD τ)) ↦[(Memref.whole b).view.set]{q} f : sProp 𝕄)
      ⊢ owns (c : Thread nD τ) (Memref.whole b) q f := by
  unfold owns
  iintro Hf
  iexists f
  isplitr
  · ipureintro; exact View.read_whole _ f
  iexact Hf

theorem whole_owns (b : Ref sig .tc) (q : PosShare TreeShare) (f : Buf (Elt F) ((Memref.whole b).view.loc (c : Thread nD τ))) :
    owns (c : Thread nD τ) (Memref.whole b) q f
      ⊢ (((Memref.whole b).view.loc (c : Thread nD τ)) ↦[(Memref.whole b).view.set]{q} f : sProp 𝕄) := by
  unfold owns
  iintro ⟨%g, %hg, Hg⟩
  obtain rfl : g = f := (View.read_whole _ g).symm.trans hg
  iexact Hg

end Rules

theorem off3 : (![0, 0, 0] : Fin 3 → ℕ) = fun _ => 0 := by funext i; fin_cases i <;> rfl
theorem off2 : (![0, 0] : Fin 2 → ℕ) = fun _ => 0 := by funext i; fin_cases i <;> rfl

/-! ## The arithmetic half of a step -/

/-- What a step stores as its result, from the halo, the tail, the block and the taps it loads. -/
def blockOut (i : grid0.Coords) (halo tail : Vec F S2x3x1024 .f32) (X : Vec F S2x512x1024 .f32) (kk : Vec F S4x1024 .f32) :
    Vec F S2x512x1024 .bf16 :=
  k0_pay1 (k0_pay6 i halo tail X) (k0_pay7 kk) (k0_pay8 X kk) (k0_pay9 i halo tail X kk)

/-- Before the last step the halo loaded does not matter. -/
theorem blockOut_halo (t : Fin grid0.N) (ht : t.val ≠ 7) (halo halo' tail : Vec F S2x3x1024 .f32) (X : Vec F S2x512x1024 .f32)
    (kk : Vec F S4x1024 .f32) : blockOut (grid0.coords t) halo tail X kk = blockOut (grid0.coords t) halo' tail X kk := by
  have hne : ¬ Scalar.cmpi .eq (BitVec.ofNat 32 (grid0.coords t 0).val) 7#32 = 1#1 := fun h => ht ((eq_seven_iff t).1 h)
  have h6 : ∀ h : Vec F S2x3x1024 .f32, k0_pay6 (grid0.coords t) h tail X
      = concatenate S2x515x1024 1 [⟨S2x3x1024, truncf .bf16 tail bitsLt_bf16_f32⟩, ⟨S2x512x1024, k0_pay5 X⟩]
        concatenates_S2x3x1024_S2x512x1024_S2x515x1024_d1 := fun h => by
    unfold k0_pay6
    dsimp only
    rw [show Scalar.select (Scalar.cmpi .eq (BitVec.ofNat 32 (grid0.coords t 0).val) 7#32) h tail = tail from if_neg hne]
  unfold blockOut k0_pay9
  rw [h6 halo, h6 halo']

/-- The windows of the whole: of a three-row buffer, of a block, of the taps. -/
abbrev all3 : Rect S2x3x1024 := Rect.unit ![0, 0, 0] S2x3x1024.size inb_S2x3x1024_S2x3x1024_0_0_0
abbrev allX : Rect S2x512x1024 := Rect.unit ![0, 0, 0] S2x512x1024.size inb_S2x512x1024_S2x512x1024_0_0_0
abbrev allK : Rect S4x1024 := Rect.unit ![0, 0] S4x1024.size inb_S4x1024_S4x1024_0_0

section Compute

variable (c : Dev nD) (i : grid0.Coords)

/-- The halo as a step may load it: whatever holds it, held before and after, the rows loaded satisfying `P`. -/
def Loadable (c : Dev nD) (H : sProp 𝕄) (P : Vec F S2x3x1024 .f32 → Prop) : Prop :=
  ∀ {hl : haloM.view.LoadsAt all3.toLoadRect}
    {k : Vec F S2x3x1024 .f32 → Prog (TpuEff nD τ sig (Elt F) Λ₀ .tc) PUnit} {Q : PUnit → sProp 𝕄},
    H ⊢ iprop((∀ v, ⌜P v⌝ -∗ H -∗ wp frame (wpE (defs₀ (F := F)) 𝒱₀ (c : Thread nD τ) none) Set.univ (k v) Q)
        -∗ wp frame (wpE (defs₀ (F := F)) 𝒱₀ (c : Thread nD τ) none) Set.univ
            (.op (.load haloM all3.toLoadRect hl) k) Q)

/-- The arithmetic half of the body. -/
abbrev computeProg (A : Memref sig .tc .vmem S2x512x1024 .f32) (B : Memref sig .tc .vmem S4x1024 .f32)
    (C : Memref sig .tc .vmem S2x512x1024 .bf16)
    (hl1 : haloM.view.LoadsAt all3.toLoadRect) (hl2 : tailM.view.LoadsAt all3.toLoadRect) (hl3 : A.view.LoadsAt allX.toLoadRect)
    (hl4 : B.view.LoadsAt allK.toLoadRect) (hl5 : C.view.LoadsAt allX.toLoadRect) (hl6 : tailM.view.LoadsAt all3.toLoadRect)
    (hx1 : (C.access allX).Stores Finset.univ) (hm1 : (Finset.univ : Finset allX.shape.Idx) = Finset.univ ∨ ∀ a, allX.stride a = 1)
    (hx2 : (tailM.access all3).Stores Finset.univ)
    (hm2 : (Finset.univ : Finset all3.shape.Idx) = Finset.univ ∨ ∀ a, all3.stride a = 1) :
    Prog (TpuEff nD τ sig (Elt F) Λ₀ .tc) PUnit :=
  .op (.load haloM all3.toLoadRect hl1) fun v13 =>
  .op (.load tailM all3.toLoadRect hl2) fun v14 =>
  .op (.load A allX.toLoadRect hl3) fun v16 =>
  .op (.load B allK.toLoadRect hl4) fun v21 =>
  .op (.load C allX.toLoadRect hl5) fun _ =>
  .op (.store C allX
      (k0_pay1 (k0_pay6 i v13 v14 v16) (k0_pay7 v21) (k0_pay8 v16 v21) (k0_pay9 i v13 v14 v16 v21)) Finset.univ hx1 hm1) fun _ =>
  .op (.load tailM all3.toLoadRect hl6) fun _ =>
  .op (.store tailM all3
      (k0_pay2 (k0_pay4 v16)) Finset.univ hx2 hm2) fun _ => .ret ⟨⟩

theorem wp_compute {H : sProp 𝕄} {P : Vec F S2x3x1024 .f32 → Prop} (hH : Loadable c H P)
    {A : Memref sig .tc .vmem S2x512x1024 .f32} {B : Memref sig .tc .vmem S4x1024 .f32} {C : Memref sig .tc .vmem S2x512x1024 .bf16}
    {tail : Vec F S2x3x1024 .f32} {X : Vec F S2x512x1024 .f32} {kk : Vec F S4x1024 .f32} {Y out : Vec F S2x512x1024 .bf16}
    (hout : ∀ v, P v → blockOut i v tail X kk = out)
    {hl1 hl2 hl3 hl4 hl5 hl6 hx1 hm1 hx2 hm2} (Q : PUnit → sProp 𝕄) :
    iprop(H ∗ tailPts c tail ∗ owns (c : Thread nD τ) A fullShare X ∗ owns (c : Thread nD τ) B fullShare kk
        ∗ owns (c : Thread nD τ) C fullShare Y)
      ⊢ iprop((H -∗ tailPts c (k0_pay2 (k0_pay4 X)) -∗ owns (c : Thread nD τ) A fullShare X -∗ owns (c : Thread nD τ) B fullShare kk
          -∗ owns (c : Thread nD τ) C fullShare out -∗ wp frame (wpE (defs₀ (F := F)) 𝒱₀ (c : Thread nD τ) none) Set.univ (.ret ⟨⟩) Q)
        -∗ wp frame (wpE (defs₀ (F := F)) 𝒱₀ (c : Thread nD τ) none) Set.univ
          (computeProg i A B C hl1 hl2 hl3 hl4 hl5 hl6 hx1 hm1 hx2 hm2) Q) := by
  iintro ⟨HH, HT, HA, HB, HC⟩ Hk
  iapply hH $$ HH
  iintro %v %hv HH
  ihave HT := (owns_whole (F := F) c cc0_scratch0 fullShare tail) $$ HT
  iapply (wp_load_owns c (M := tailM) off3) $$ HT
  iintro HT
  iapply (wp_load_owns c (M := A) off3) $$ HA
  iintro HA
  iapply (wp_load_owns c (M := B) off2) $$ HB
  iintro HB
  iapply (wp_load_owns c (M := C) off3) $$ HC
  iintro HC
  iapply (wp_store_owns c (M := C) off3) $$ HC
  iintro HC
  iapply (wp_load_owns c (M := tailM) off3) $$ HT
  iintro HT
  iapply (wp_store_owns c (M := tailM) off3) $$ HT
  iintro HT
  ihave HT := (whole_owns (F := F) c cc0_scratch0 fullShare _) $$ HT
  rw [← hout v hv]
  unfold blockOut
  iapply Hk $$ HH HT HA HB HC

end Compute

end Cert.KernelIdeal.Conv

end
-- ==== Proof.State.lean ====
/-
  What a device holds before each grid step, and the proof data of the pipelined call.
-/
module

public import proofs.«01_k».proof.Proof.Ops
public import proofs.«01_k».proof.Proof.Gen.KernelIdeal.Frame

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ (UU F) ℕ

variable (m : (ℓ : Loc nD τ sig) → Buf (Elt F) ℓ)

/-! ## The contents -/

/-- The block of the device's array at step `n`. -/
def xb (c : Dev nD) (n : ℕ) : Vec F S2x512x1024 .f32 := iblk m c 0 ⟨n % 8, lt_of_lt_of_eq (Nat.mod_lt n (by decide)) N_0.symm⟩

theorem xb_val (c : Dev nD) (t : Fin cfg0.N) : xb m c t.val = iblk m c 0 t := by
  unfold xb
  have h : (⟨t.val % 8, lt_of_lt_of_eq (Nat.mod_lt _ (by decide)) N_0.symm⟩ : Fin cfg0.N) = t :=
    Fin.ext (Nat.mod_eq_of_lt (lt_of_lt_of_eq t.isLt N_0))
  rw [h]

/-- The device's copy of the taps. -/
abbrev taps (c : Dev nD) : Vec F S4x1024 .f32 := m ((c : Thread nD τ).loc main_arg1)

/-- What the tail buffer holds at step `n`: the three rows before the step's block. -/
def tailAt (c : Dev nD) (n : ℕ) : Vec F S2x3x1024 .f32 :=
  if n = 0 then rowsA.view.read (Elt F) (xOf m c) else k0_pay2 (k0_pay4 (xb m c (n - 1)))

/-- What step `t` stores as its result. -/
def outAt (c : Dev nD) (t : Fin cfg0.N) : Vec F S2x512x1024 .bf16 :=
  blockOut (grid0.coords t) (haloRows m c) (tailAt m c t.val) (xb m c t.val) (iblk m c 1 t)

/-! ## The halo between its neighbours' hands -/

/-- From the first step to the last: half of the halo in write mode, or, where nothing will land, the whole of it. -/
def haloMid (c : Dev nD) : sProp 𝕄 :=
  if hasL c then iprop(∃ f, haloWill m c fullShare.right f ∅) else haloPts c (haloRows m c)

theorem loadable_pts (c : Dev nD) (f : Vec F S2x3x1024 .f32) : Loadable (F := F) c (haloPts c f) (· = f) := by
  intro hl k Q
  iintro HH Hk
  ihave HH := (owns_whole (F := F) c cc0_scratch1 fullShare f) $$ HH
  iapply (wp_load_owns c (M := haloM) off3) $$ HH
  iintro HH
  ihave HH := (whole_owns (F := F) c cc0_scratch1 fullShare f) $$ HH
  ispecialize Hk $$ %f
  iapply Hk $$ %rfl HH

/-- What the load reads lies in the halo. -/
theorem load_sub (r : Rect S2x3x1024) : haloM.view.setOn r.toLoadRect.set ⊆ haloM.view.set := by
  have h := View.set_slice_subset haloM.view r
  rwa [View.set_slice] at h

theorem loadable_mid (c : Dev nD) (ι : ℕ) :
    Loadable (F := F) c iprop(wmInv (EW F) ι ∗ haloMid m c) (fun _ => True) := by
  intro hl k Q
  unfold haloMid
  by_cases h : hasL c
  · rw [if_pos h]
    iintro ⟨#Hwm, %f, HH⟩ Hk
    iapply (wp_load_willBeTo (emb := EW F) (ιwm := ι) 𝒱₀ (c : Thread nD τ) none Set.univ (m := haloM) (load_sub _)) $$ [HH]
    · isplitr
      · iexact Hwm
      iexact HH
    iintro %cur %W' - HH
    ispecialize Hk $$ %_
    iapply Hk $$ %trivial [HH]
    isplitr
    · iexact Hwm
    iexists f
    iexact HH
  · rw [if_neg h]
    iintro ⟨#Hwm, HH⟩ Hk
    iapply (loadable_pts c (haloRows m c)) $$ HH
    iintro %v - HH
    ispecialize Hk $$ %v
    iapply Hk $$ %trivial [HH]
    isplitr
    · iexact Hwm
    iexact HH

/-! ## The protocol's state -/

/-- The cells device c touches: its own four, its neighbours' barriers, the right neighbour's receive cell. -/
def invs (K : GSem nD τ sig → ℕ) (c : Dev nD) : sProp 𝕄 :=
  iprop(cellInv ER (Rd m) (K (barCell c)) (barCell c) ∗ cellInv ER (Rd m) (K (sendCell c)) (sendCell c)
    ∗ cellInv ER (Rd m) (K (recvCell c)) (recvCell c) ∗ cellInv ER (Rd m) (K (locCell c)) (locCell c)
    ∗ cellInv ER (Rd m) (K (barCell (pv c))) (barCell (pv c)) ∗ cellInv ER (Rd m) (K (barCell (nx c))) (barCell (nx c))
    ∗ cellInv ER (Rd m) (K (recvCell (nx c))) (recvCell (nx c)))

instance invs_persistent (K : GSem nD τ sig → ℕ) (c : Dev nD) : BI.Persistent (invs m K c) := by unfold invs; infer_instance

/-- With them write mode's invariant and the levels: what every step may use. -/
def fixed (K : GSem nD τ sig → ℕ) (ι : ℕ) (c : Dev nD) : sProp 𝕄 :=
  iprop(invs m K c ∗ wmInv (EW F) ι ∗ levAts L lv)

instance fixed_persistent (K : GSem nD τ sig → ℕ) (ι : ℕ) (c : Dev nD) : BI.Persistent (fixed m K ι c) := by
  unfold fixed; infer_instance

/-- The credit of the copy to come, and of the copy to leave. -/
def credR (c : Dev nD) : sProp 𝕄 := if hasL c then cred (tallyAt (recvCell c) () N) else iprop(emp)
def credS (c : Dev nD) : sProp 𝕄 := if hasR c then cred (tallyAt (sendCell c) () N) else iprop(emp)

/-- Before the first step. -/
def phase0 (c : Dev nD) : sProp 𝕄 :=
  iprop(atPos ER (barCell c) 0 ∅ 0 ∗ atPos ER (sendCell c) 0 ∅ 0 ∗ atPos ER (recvCell c) 0 ∅ 0 ∗ atPos ER (locCell c) 0 ∅ 0
    ∗ reached ER (sendCell c) 0 ∗ reached ER (recvCell c) 0 ∗ reached ER (locCell c) 0
    ∗ reached ER (barCell (pv c)) 0 ∗ reached ER (barCell (nx c)) 0
    ∗ dutyTok ER (barCell (pv c)) 0 false ∗ dutyTok ER (barCell (nx c)) 0 true ∗ dutyTok ER (recvCell (nx c)) 0 false
    ∗ dutyTok ER (sendCell c) 0 false ∗ dutyTok ER (locCell c) 0 false
    ∗ cred (tallyAt (barCell c) () (nbrs c)) ∗ credR c ∗ srcA m c ∗ srcB m c
    ∗ (∃ f, haloPts c f) ∗ ∃ f, tailPts c f)

/-- Once both neighbours have been told and before they are heard. -/
def phaseA (c : Dev nD) (n : ℕ) : sProp 𝕄 :=
  iprop(atPos ER (barCell c) 0 ∅ 0 ∗ atPos ER (sendCell c) 0 ∅ 0 ∗ atPos ER (recvCell c) 0 ∅ 0 ∗ atPos ER (locCell c) (0 + 1) ∅ 0
    ∗ reached ER (sendCell c) 0 ∗ dutyTok ER (recvCell (nx c)) 0 false ∗ dutyTok ER (sendCell c) 0 false
    ∗ cred (tallyAt (barCell c) () (nbrs c)) ∗ credR c ∗ srcB m c ∗ haloMid m c ∗ tailPts c (tailAt m c n))

/-- While the copies are under way. -/
def phaseB (c : Dev nD) (n : ℕ) : sProp 𝕄 :=
  iprop(atPos ER (barCell c) (0 + 1) ∅ 0 ∗ atPos ER (sendCell c) 0 ∅ 0 ∗ atPos ER (recvCell c) 0 ∅ 0 ∗ atPos ER (locCell c) (0 + 1) ∅ 0
    ∗ credS (F := F) c ∗ credR (F := F) c ∗ haloMid m c ∗ tailPts c (tailAt m c n))

/-- After the last step: every counter back at zero. -/
def phaseC (c : Dev nD) : sProp 𝕄 :=
  iprop(semVal (barCell c) 0 ∗ semVal (sendCell c) 0 ∗ semVal (recvCell c) 0 ∗ semVal (locCell c) 0
    ∗ (∃ f, haloPts (F := F) c f) ∗ ∃ f, tailPts (F := F) c f)

/-- What a device holds before step `n`. -/
def phase (c : Dev nD) (n : ℕ) : sProp 𝕄 :=
  if n = 0 then phase0 m c else if n ≤ 2 then phaseA m c n else if n ≤ 7 then phaseB m c n else phaseC c

/-- What it owes then. -/
def owedAt (c : Dev nD) (n : ℕ) : CellTallies nD τ sig Unit := if n = 0 then O₀ c else if n ≤ 2 then oRecv c else 0

/-! ## The proof data -/

def dat0 (c : Dev nD) : Dat τ (Elt F) Unit ℕ (UU F) ℕ cfg0 c where
  A w := V m c (Pipeline.arrRef spec0 w)
  after
    | 0 => iblk m c 0
    | 1 => iblk m c 1
    | 2 => outAt m c
  Φ t := iprop(∃ K ι, fixed m K ι c ∗ phase m c t.val)
  q w := if w = 0 then fullShare.left else fullShare
  owed t := owedAt c t.val

abbrev adm : (p : Fin 1) → (pcfgs (F := F) p).Adm := fun p => (cfgs p).toPCfg_adm
def pdats : (p : Fin 1) → (c : Dev nD) → Dat τ (Elt F) Unit ℕ (UU F) ℕ (Pipeline.pin (pcfgs (F := F)) adm p) c
  | 0 => dat0 m

theorem before_0 (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun _ => rfl) t d).trans rfl

theorem owesAt_intro (c : Dev nD) (t : Fin (cfg0.N + 1)) {O : CellTallies nD τ sig Unit} (h : owedAt c t.val = O) :
    (iprop(∃ W, owes (c : Thread nD τ) O W) : sProp 𝕄) ⊢ (dat0 m c).owesAt () t := by
  unfold Dat.owesAt Pipeline.owesWithin Dat.bound
  rw [show (dat0 m c).owed t = O from h, show (dat0 m c).recorded t = Set.univ from rfl]
  iintro ⟨%W, HO⟩
  iexists W
  isplitr
  · ipureintro; exact fun _ _ => Or.inl trivial
  iexact HO

theorem owesAt_elim (c : Dev nD) (t : Fin (cfg0.N + 1)) {O : CellTallies nD τ sig Unit} (h : owedAt c t.val = O) :
    ((dat0 m c).owesAt () t : sProp 𝕄) ⊢ iprop(∃ W, owes (c : Thread nD τ) O W) := by
  unfold Dat.owesAt Pipeline.owesWithin
  rw [show (dat0 m c).owed t = O from h]
  iintro ⟨%W, -, HO⟩
  iexists W
  iexact HO

/-! ## The shape of a step -/

/-- A step's resources beside the protocol's: the three staging buffers, the result's at anything before. -/
def stPre (c : Dev nD) (t : Fin cfg0.N) : sProp 𝕄 :=
  iprop(owns (c : Thread nD τ) (st0_0 t) fullShare (iblk m c 0 t) ∗ owns (c : Thread nD τ) (st0_1 t) fullShare (iblk m c 1 t)
    ∗ ∃ Y, owns (c : Thread nD τ) (st0_2 t) fullShare Y)
def stPost (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (outAt m c t))

/-- Step `t` takes its device from one state to the next. -/
def StepRuns (c : Dev nD) (t : Fin cfg0.N) : Prop :=
  ∀ K ι, iprop(fixed m K ι c ∗ phase m c t.val ∗ (∃ W, owes (c : Thread nD τ) (owedAt c t.val) W) ∗ stPre m c t)
    ⊢ wp frame (wpE (defs₀ (F := F)) 𝒱₀ (c : Thread nD τ) none) Set.univ (bodyAt0 t) fun _ =>
        iprop(phase m c (t.val + 1) ∗ (∃ W, owes (c : Thread nD τ) (owedAt c (t.val + 1)) W) ∗ stPost m c t)

set_option maxHeartbeats 800000 in
/-- Steps that all run are the body's obligation. -/
theorem body_of (c : Dev nD) (h : ∀ t, StepRuns m c t) : BodyObligation (dat0 m c) (defs₀ (F := F)) 𝒱₀ () Set.univ := by
  intro t
  rw [bigSep_W0, bigSep_W0]
  show iprop((∃ K ι, fixed m K ι c ∗ phase m c t.val) ∗ _ ∗ _) ⊢ _
  iintro ⟨⟨%K, %ι, #Hfix, Hph⟩, HO, ⟨%d0, H0⟩, ⟨%d1, H1⟩, ⟨%d2, H2⟩⟩
  ihave HO := (owesAt_elim m c t.castSucc rfl) $$ HO
  rw [before_0 m c t d0, before_1 m c t d1]
  have hs := h t K ι
  unfold stPre at hs
  ihave Hw := hs $$ [Hph HO H0 H1 H2]
  · isplitr
    · iexact Hfix
    isplitl [Hph]
    · iexact Hph
    isplitl [HO]
    · iexact HO
    isplitl [H0]
    · iexact H0
    isplitl [H1]
    · iexact H1
    iexists _
    iexact H2
  iapply (wp_wand frame (wpE (defs₀ (F := F)) 𝒱₀ (c : Thread nD τ) none) Set.univ) $$ Hw
  iintro %a
  unfold stPost
  iintro ⟨Hph, HO, H0, H1, H2⟩
  isplitl [Hph]
  · rw [show (dat0 m c).Φ t.succ = iprop(∃ K ι, fixed m K ι c ∗ phase m c (t.val + 1)) from rfl]
    iexists K
    iexists ι
    isplitr
    · iexact Hfix
    iexact Hph
  isplitl [HO]
  · iapply (owesAt_intro m c t.succ rfl); iexact HO
  isplitl [H0]
  · iexact H0
  isplitl [H1]
  · iexact H1
  iexact H2

theorem phase_zero (c : Dev nD) : phase m c 0 = phase0 m c := if_pos rfl
theorem phase_A (c : Dev nD) (n : ℕ) (h0 : n ≠ 0) (h : n ≤ 2) : phase m c n = phaseA m c n := (if_neg h0).trans (if_pos h)
theorem phase_B (c : Dev nD) (n : ℕ) (h0 : ¬ n ≤ 2) (h : n ≤ 7) : phase m c n = phaseB m c n := by
  unfold phase; rw [if_neg (by omega), if_neg h0, if_pos h]
theorem phase_C (c : Dev nD) (n : ℕ) (h : ¬ n ≤ 7) : phase m c n = phaseC c := by
  unfold phase; rw [if_neg (by omega), if_neg (by omega), if_neg h]
theorem owedAt_A (c : Dev nD) (n : ℕ) (h0 : n ≠ 0) (h : n ≤ 2) : owedAt c n = oRecv c := (if_neg h0).trans (if_pos h)
theorem owedAt_B (c : Dev nD) (n : ℕ) (h0 : ¬ n ≤ 2) : owedAt c n = 0 := by
  unfold owedAt; rw [if_neg (by omega), if_neg h0]

theorem tailAt_succ (c : Dev nD) (t : Fin cfg0.N) : k0_pay2 (k0_pay4 (iblk m c 0 t)) = tailAt m c (t.val + 1) := by
  unfold tailAt
  rw [if_neg (Nat.succ_ne_zero _), Nat.add_sub_cancel, xb_val]

section Compute

variable (c : Dev nD) (t : Fin cfg0.N)

/-- The arithmetic half of a step, over any way of holding the halo. -/
theorem compute_any {H : sProp 𝕄} {P : Vec F S2x3x1024 .f32 → Prop} (hH : Loadable c H P)
    (hout : ∀ v, P v → blockOut (grid0.coords t) v (tailAt m c t.val) (iblk m c 0 t) (iblk m c 1 t) = outAt m c t)
    {hl1 hl2 hl3 hl4 hl5 hl6 hx1 hm1 hx2 hm2} (Q : PUnit → sProp 𝕄) :
    iprop(H ∗ tailPts c (tailAt m c t.val) ∗ stPre m c t)
      ⊢ iprop((H -∗ tailPts c (tailAt m c (t.val + 1)) -∗ stPost m c t
          -∗ wp frame (wpE (defs₀ (F := F)) 𝒱₀ (c : Thread nD τ) none) Set.univ (.ret PUnit.unit) Q)
        -∗ wp frame (wpE (defs₀ (F := F)) 𝒱₀ (c : Thread nD τ) none) Set.univ
          (computeProg (grid0.coords t) (win0_0.stage (cfg0.slots t 0)) (win0_1.stage (cfg0.slots t 1)) (win0_2.stage (cfg0.slots t 2))
            hl1 hl2 hl3 hl4 hl5 hl6 hx1 hm1 hx2 hm2) Q) := by
  unfold stPre stPost
  iintro ⟨HH, HT, HA, HB, %Y, HC⟩ Hk
  iapply (wp_compute c (grid0.coords t) hH hout Q) $$ [HH HT HA HB HC]
  · isplitl [HH]
    · iexact HH
    isplitl [HT]
    · iexact HT
    isplitl [HA]
    · iexact HA
    isplitl [HB]
    · iexact HB
    iexact HC
  iintro HH HT HA HB HC
  rw [tailAt_succ]
  iapply Hk $$ HH HT [HA HB HC]
  isplitl [HA]
  · iexact HA
  isplitl [HB]
  · iexact HB
  iexact HC

/-- Before the last step the halo is held in part. -/
theorem compute_mid (ht : t.val ≠ 7) (ι : ℕ) {hl1 hl2 hl3 hl4 hl5 hl6 hx1 hm1 hx2 hm2} (Q : PUnit → sProp 𝕄) :
    iprop((wmInv (EW F) ι ∗ haloMid m c) ∗ tailPts c (tailAt m c t.val) ∗ stPre m c t)
      ⊢ iprop(((wmInv (EW F) ι ∗ haloMid m c) -∗ tailPts c (tailAt m c (t.val + 1)) -∗ stPost m c t
          -∗ wp frame (wpE (defs₀ (F := F)) 𝒱₀ (c : Thread nD τ) none) Set.univ (.ret PUnit.unit) Q)
        -∗ wp frame (wpE (defs₀ (F := F)) 𝒱₀ (c : Thread nD τ) none) Set.univ
          (computeProg (grid0.coords t) (win0_0.stage (cfg0.slots t 0)) (win0_1.stage (cfg0.slots t 1)) (win0_2.stage (cfg0.slots t 2))
            hl1 hl2 hl3 hl4 hl5 hl6 hx1 hm1 hx2 hm2) Q) :=
  compute_any m c t (loadable_mid m c ι) (fun v _ => by
    unfold outAt
    rw [xb_val]
    exact blockOut_halo t ht _ _ _ _ _) Q

/-- At the last step it is held whole. -/
theorem compute_last {hl1 hl2 hl3 hl4 hl5 hl6 hx1 hm1 hx2 hm2} (Q : PUnit → sProp 𝕄) :
    iprop(haloPts c (haloRows m c) ∗ tailPts c (tailAt m c t.val) ∗ stPre m c t)
      ⊢ iprop((haloPts c (haloRows m c) -∗ tailPts c (tailAt m c (t.val + 1)) -∗ stPost m c t
          -∗ wp frame (wpE (defs₀ (F := F)) 𝒱₀ (c : Thread nD τ) none) Set.univ (.ret PUnit.unit) Q)
        -∗ wp frame (wpE (defs₀ (F := F)) 𝒱₀ (c : Thread nD τ) none) Set.univ
          (computeProg (grid0.coords t) (win0_0.stage (cfg0.slots t 0)) (win0_1.stage (cfg0.slots t 1)) (win0_2.stage (cfg0.slots t 2))
            hl1 hl2 hl3 hl4 hl5 hl6 hx1 hm1 hx2 hm2) Q) :=
  compute_any m c t (loadable_pts c (haloRows m c)) (fun v hv => by
    unfold outAt
    rw [xb_val, hv]) Q

end Compute

end Cert.KernelIdeal.Conv

end
-- ==== Proof.Talk.lean ====
/-
  The body's talking operations, one at a time: the two words to the neighbours, the local copy, the zero halo of device 0,
  the wait for the neighbours' words, the copy to the right, and the two waits at the end.
-/
module

public import proofs.«01_k».proof.Proof.State

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

variable (m : (ℓ : Loc nD τ sig) → Buf (Elt F) ℓ)

/-- Running a program on device c. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- The halo's two halves in write mode, one with every row written, are the halo at the rows landed. -/
theorem halves (c : Dev nD) (f g : Buf (Elt F) (haloM.view.loc (c : Thread nD τ))) (ι : ℕ) :
    iprop(wmInv (EW F) ι ∗ haloWill m c fullShare.left g (∅ ∪ haloM.view.set) ∗ haloWill m c fullShare.right f ∅)
      ⊢ iprop(|={Set.univ}=> haloPts c (landed m c)) := by
  iintro ⟨#Hwm, Hl, Hr⟩
  icombine Hl Hr as HW
  ihave %hag := BI.Region.willBe_agree $$ HW
  icases HW with ⟨Hl, Hr⟩
  have hf : ∀ i ∈ haloM.view.set, f i = g i := fun i hi => ((hag i (Finset.mem_inter.mpr ⟨hi, hi⟩)).1.1).symm
  ihave Hr := (Entails.of_eq (BI.Region.willBe_congr (ι := (wmEmb Unit (EW F)).toEmb) (q := fullShare.right)
    (W := ∅) (W' := ∅) hf (fun _ _ => rfl) (fun _ _ => Iff.rfl))) $$ Hr
  haveI : IsOp (fullShare : PosShare TreeShare) fullShare.left fullShare.right := ⟨PosShare.mem_left_op_right fullShare⟩
  icombine Hl Hr as HW
  imod (willBeTo_castOut_some (emb := EW F) (Set.mem_univ ι)) $$ [HW] with Hp
  · isplitr
    · iexact Hwm
    iexact HW
  imodintro
  iapply (Entails.of_eq (pointsTo_congr fun i hi => ?_)) $$ Hp
  exact Finset.piecewise_eq_of_mem _ _ _ (Finset.mem_union_left _ (Finset.mem_union_right _ hi))

section Ops

variable (K : GSem nD τ sig → ℕ) (ι : ℕ) (c : Dev nD) {k : PUnit.{1} → Prog (TpuEff nD τ sig (Elt F) Λ₀ .tc) PUnit.{1}}

/-- The word to the left neighbour: the halo enters write mode, and half of it goes with the word. -/
theorem say_left {Q : PUnit → sProp 𝕄} (h : hasL c) {d : Dev nD} (hd : d = pv c) {n : ℤ} (hn : n = ((1 : ℕ) : ℤ)) {W : Waits sig Unit} :
    iprop(fixed m K ι c ∗ (∃ f, haloPts (F := F) c f) ∗ reached ER (recvCell c) 0 ∗ dutyTok ER (barCell (pv c)) 0 false
        ∗ reached ER (barCell (pv c)) 0 ∗ owes (c : Thread nD τ) (O₀ c) W)
      ⊢ iprop((haloMid m c -∗ owes (c : Thread nD τ) (oRecv c + oNx c) W -∗ run c (k ⟨⟩) Q)
        -∗ run c (.op (.semSignal (d, Proc.tc) barrier0 n) k) Q) := by
  subst hd hn
  unfold fixed invs
  iintro ⟨⟨⟨-, -, -, -, #HIp, -, -⟩, #Hwm, -⟩, ⟨%f, HH⟩, #Hrv, Ht, #Hr, HO⟩ Hk
  ihave HW := (pointsTo_castIn (emb := EW F) (ιwm := ι) (E := Set.univ) (fun i => some (landed m c i))) $$ [HH]
  · isplitr
    · iexact Hwm
    iexact HH
  iapply fupd_wp
  imod HW with HW
  imodintro
  icases HW with ⟨Hl, Hr2⟩
  iapply (Rounds.wp_signal 𝒱₀ ER (Rd m) (c : Thread nD τ) none (dst := (pv c : Thread nD τ)) (sem := barrier0) (r := 0) (d := false)
      (κ := K (barCell (pv c))) (mem_bar_false m (pv c) (hasR_pv c h)) (amount_bar m (pv c) false) () (oRecv c + oNx c)
      (O₀ := O₀ c) (by unfold O₀ oPv; rw [if_pos h])) $$ [HO Ht Hl]
  · isplitr
    · iexact HIp
    isplitl [HO]
    · iexact HO
    isplitl [Ht]
    · iexact Ht
    isplitl [Hl]
    · rw [payload_bar, if_neg Bool.false_ne_true]
      unfold readyPay
      rw [nx_pv]
      isplitl [Hl]
      · iexists f
        iexact Hl
      iexact Hrv
    iexact Hr
  iintro HO
  iapply Hk $$ [Hr2] HO
  unfold haloMid
  rw [if_pos h]
  iexists f
  iexact Hr2

/-- The word to the right neighbour carries nothing. -/
theorem say_right {Q : PUnit → sProp 𝕄} (h : hasR c) {d : Dev nD} (hd : d = nx c) {n : ℤ} (hn : n = ((1 : ℕ) : ℤ)) {W : Waits sig Unit} :
    iprop(fixed m K ι c ∗ dutyTok ER (barCell (nx c)) 0 true ∗ reached ER (barCell (nx c)) 0
        ∗ owes (c : Thread nD τ) (oRecv c + oNx c) W)
      ⊢ iprop((owes (c : Thread nD τ) (oRecv c) W -∗ run c (k ⟨⟩) Q)
        -∗ run c (.op (.semSignal (d, Proc.tc) barrier0 n) k) Q) := by
  subst hd hn
  unfold fixed invs
  iintro ⟨⟨⟨-, -, -, -, -, #HIn, -⟩, -, -⟩, Ht, #Hr, HO⟩ Hk
  iapply (Rounds.wp_signal 𝒱₀ ER (Rd m) (c : Thread nD τ) none (dst := (nx c : Thread nD τ)) (sem := barrier0) (r := 0) (d := true)
      (κ := K (barCell (nx c))) (mem_bar_true m (nx c) (hasL_nx c h)) (amount_bar m (nx c) true) () (oRecv c)
      (O₀ := oRecv c + oNx c) (by unfold oNx; rw [if_pos h])) $$ [HO Ht]
  · isplitr
    · iexact HIn
    isplitl [HO]
    · iexact HO
    isplitl [Ht]
    · iexact Ht
    isplitr
    · rw [payload_bar, if_pos rfl]
      iempintro
    iexact Hr
  iexact Hk

theorem written (f w : Vec F S2x3x1024 .f32) : tailM.view.write (Elt F) f w Finset.univ = w :=
  View.write_whole_univ cc0_scratch0 f w

/-- The local copy and its wait: the tail buffer takes the rows before block 1. -/
theorem copy_tail {Q : PUnit → sProp 𝕄} {h1 h2 h3 h4 h5} {W : Waits sig Unit} :
    iprop(fixed m K ι c ∗ srcA m c ∗ (∃ f, tailPts (F := F) c f) ∗ dutyTok ER (locCell c) 0 false ∗ reached ER (locCell c) 0
        ∗ atPos ER (locCell c) 0 ∅ 0 ∗ owes (c : Thread nD τ) (oRecv c) W)
      ⊢ iprop((tailPts c (tailAt m c 0) -∗ atPos ER (locCell c) (0 + 1) ∅ 0 -∗ (∃ W, owes (c : Thread nD τ) (oRecv c) W) -∗ run c (k ⟨⟩) Q)
        -∗ run c (.op (.enqueueDma rowsA (.here tailM) (.dma cc0_scratch4.sem) h1 h2 h3) fun _ =>
            .op (.waitDma2 cc0_scratch4.sem rowsA tailM h4 h5) k) Q) := by
  unfold fixed invs
  iintro ⟨⟨⟨-, -, -, #HI, -, -, -⟩, -, #Hlev⟩, HA, ⟨%f, HT⟩, Ht, #Hr, Hat, HO⟩ Hk
  iapply (Rounds.wp_copy_pointsTo 𝒱₀ ER (Rd m) (c : Thread nD τ) none (src := rowsA) (dst := tailM) (sem := .dma cc0_scratch4.sem)
      (q := fullShare.right.left) (fs := xOf m c) (fd := f) (r := 0) (d := false) (κ := K (locCell c)) (mem_loc m c) () N rfl (amount_loc m c false)
      (by rw [payload_loc]; unfold locPay; rw [written]; iintro ⟨H, -⟩; iexact H)) $$ [HA HT Ht]
  · isplitr
    · iexact HI
    isplitl [HA]
    · iexact HA
    isplitl [HT]
    · iexact HT
    isplitl [Ht]
    · iexact Ht
    iexact Hr
  iintro Hc
  iapply (Rounds.wp_wait_rest_token 𝒱₀ ER (Rd m) (c : Thread nD τ) none (κ := K (locCell c))
      (wpE_waitDma2_eq (src := rowsA) (dst := tailM) 𝒱₀ (c : Thread nD τ) none Set.univ) (Set.mem_univ _) () (O := oRecv c) (W := W) (R := 0) (m := 0) (T := ∅)
      ((Nat.zero_add _).trans (expect_loc m c).symm)) $$ [Hc HO Hat]
  · isplitr
    · iexact HI
    isplitl [Hc]
    · iexact Hc
    isplitl [HO]
    · iexact HO
    isplitr
    · iapply (mayWait_low (F := F) c (.dma cc0_scratch4.sem) (by unfold lv; rw [if_neg loc_ne_bar, if_neg loc_ne_recv]; decide))
      iexact Hlev
    iexact Hat
  iintro ⟨HO, Hat, -, Hpay⟩
  ihave HT := (Entails.of_eq (rest_loc m c)) $$ Hpay
  unfold locPay
  iapply Hk $$ [HT] Hat [HO]
  · unfold tailAt
    rw [if_pos rfl]
    iexact HT
  iexists _
  iexact HO

/-- Device 0 stores zeros in its halo, which nothing will write. -/
theorem zero_halo {Q : PUnit → sProp 𝕄} (h : ¬ hasL c) {hl hx hm} :
    (iprop(∃ f, haloPts (F := F) c f) : sProp 𝕄)
      ⊢ iprop((haloMid m c -∗ run c (k ⟨⟩) Q)
        -∗ run c (.op (.load haloM all3.toLoadRect hl) fun _ => .op (.store haloM all3 (k0_pay3 (F := F)) Finset.univ hx hm) k) Q) := by
  iintro ⟨%f, HH⟩ Hk
  ihave HH := (owns_whole (F := F) c cc0_scratch1 fullShare f) $$ HH
  iapply (wp_load_owns c (M := haloM) off3) $$ HH
  iintro HH
  iapply (wp_store_owns c (M := haloM) off3) $$ HH
  iintro HH
  ihave HH := (whole_owns (F := F) c cc0_scratch1 fullShare _) $$ HH
  iapply Hk
  unfold haloMid haloRows
  rw [if_neg h, if_neg h]
  iexact HH

/-- The wait for the neighbours' words; the right one's brings the permission to write. -/
theorem hear {Q : PUnit → sProp 𝕄} {n : ℤ} (hn : n = ((nbrs c : ℕ) : ℤ)) {W : Waits sig Unit} :
    iprop(fixed m K ι c ∗ atPos ER (barCell c) 0 ∅ 0 ∗ cred (tallyAt (barCell c) () (nbrs c)) ∗ owes (c : Thread nD τ) (oRecv c) W)
      ⊢ iprop((atPos ER (barCell c) (0 + 1) ∅ 0
            -∗ bigSep ((Rd (F := F) m).duties (barCell c) 0 \ ∅) (fun d => (Rd (F := F) m).payload (barCell c) 0 d)
            -∗ (∃ W, owes (c : Thread nD τ) (oRecv c) W) -∗ run c (k ⟨⟩) Q)
        -∗ run c (.op (.semWait barrier0 n) k) Q) := by
  subst hn
  unfold fixed invs
  iintro ⟨⟨⟨#HI, -, -, -, -, -, -⟩, -, #Hlev⟩, Hat, Hc, HO⟩ Hk
  iapply (Rounds.wp_wait_rest_token 𝒱₀ ER (Rd m) (c : Thread nD τ) none (κ := K (barCell c))
      (wpE_semWait_eq 𝒱₀ (c : Thread nD τ) none Set.univ) (Set.mem_univ _) () (O := oRecv c) (W := W) (R := 0) (m := 0) (T := ∅)
      ((Nat.zero_add _).trans (expect_bar m c).symm)) $$ [Hc HO Hat]
  · isplitr
    · iexact HI
    isplitl [Hc]
    · iexact Hc
    isplitl [HO]
    · iexact HO
    isplitr
    · iapply (mayWait_low (F := F) c (.reg barrier0) (le_of_eq (lv_bar c ())))
      iexact Hlev
    iexact Hat
  iintro ⟨HO, Hat, -, Hpay⟩
  iapply Hk $$ Hat Hpay [HO]
  iexists _
  iexact HO

/-- What the copy carries into the right neighbour's halo is what that halo is to hold. -/
theorem landed_admitted : haloM.view.Admitted (Elt F) (fun i => some (landed m (nx c) i)) (rowsB.view.read (Elt F) (xOf m c)) Finset.univ := by
  refine View.admitted_some_iff.mpr fun x _ => ?_
  unfold landed
  rw [pv_nx]
  rfl

/-- The copy to the right, into the half of the neighbour's halo that came with its word. -/
theorem send {Q : PUnit → sProp 𝕄} (h : hasR c) {d : Dev nD} (hd : d = nx c) {h1 h2 h3 h4} {W : Waits sig Unit} :
    iprop(fixed m K ι c ∗ srcB m c ∗ readyPay m c ∗ dutyTok ER (sendCell c) 0 false ∗ reached ER (sendCell c) 0
        ∗ dutyTok ER (recvCell (nx c)) 0 false ∗ owes (c : Thread nD τ) (oRecv c) W)
      ⊢ iprop((credS c -∗ (∃ W, owes (c : Thread nD τ) 0 W) -∗ run c (k ⟨⟩) Q)
        -∗ run c (.op (.enqueueDma rowsB (.remote (Dev.tc d) haloM (.dma cc0_scratch2.sem) h1) (.dma cc0_scratch3.sem) h2 h3 h4) k) Q) := by
  subst hd
  unfold fixed invs readyPay
  iintro ⟨⟨⟨-, #HIs, -, -, -, -, #HIn⟩, #Hwm, -⟩, HB, ⟨⟨%f, HH⟩, #Hrn⟩, Hts, #Hrs, Htn, HO⟩ Hk
  iapply (Rounds.wp_send 𝒱₀ ER (Rd m) (c : Thread nD τ) none (c' := (nx c : Thread nD τ)) (src := rowsB) (dst := haloM)
      (sS := .dma cc0_scratch2.sem) (sem := .dma cc0_scratch3.sem) (q := fullShare.right.right) (fs := xOf m c)
      (R := haloWill m (nx c) fullShare.left f (∅ ∪ haloM.view.set)) (κ₁ := K (sendCell c)) (κ₂ := K (recvCell (nx c)))
      (r₁ := 0) (r₂ := 0) (d₁ := false) (d₂ := false) (mem_send m c h) (mem_recv m (nx c) (hasL_nx c h))
      () () N rfl (amount_send m c false) (amount_recv m (nx c) false) (O₀ := oRecv c) 0 (by unfold oRecv; rw [if_pos h, zero_add])
      (by rw [payload_send]; iintro -; iempintro)
      (by rw [payload_recv]; unfold recvPay; iintro H; iexists f; iexact H)) $$ [HB HH HO Hts Htn]
  · isplitr
    · iexact HIs
    isplitr
    · iexact HIn
    isplitl [HB]
    · iexact HB
    isplitl [HH]
    · iapply (willBeTo_writeUpdate (emb := EW F) (ιwm := ι) (nx c : Thread nD τ) (v := haloM.view) (S := haloM.view.set)
        subset_rfl (landed_admitted m c))
      isplitr
      · iexact Hwm
      iexact HH
    isplitl [HO]
    · iexact HO
    isplitl [Hts]
    · iexact Hts
    isplitr
    · iexact Hrs
    isplitl [Htn]
    · iexact Htn
    iexact Hrn
  iintro ⟨Hc, HO⟩
  iapply Hk $$ [Hc] [HO]
  · unfold credS
    rw [if_pos h]
    iexact Hc
  iexists _
  iexact HO

/-- The wait for the copy into the own halo: the two halves make the whole, at the rows landed. -/
theorem wait_recv {Q : PUnit → sProp 𝕄} (h : hasL c) {h1 h2} {W : Waits sig Unit} :
    iprop(fixed m K ι c ∗ haloMid m c ∗ credR c ∗ atPos ER (recvCell c) 0 ∅ 0 ∗ owes (c : Thread nD τ) 0 W)
      ⊢ iprop((haloPts c (haloRows m c) -∗ atPos ER (recvCell c) (0 + 1) ∅ 0 -∗ (∃ W, owes (c : Thread nD τ) 0 W) -∗ run c (k ⟨⟩) Q)
        -∗ run c (.op (.waitDma2 cc0_scratch3.sem rowsB haloM h1 h2) k) Q) := by
  unfold fixed invs haloMid credR
  rw [if_pos h, if_pos h]
  iintro ⟨⟨⟨-, -, #HI, -, -, -, -⟩, #Hwm, -⟩, ⟨%f, HH⟩, Hc, Hat, HO⟩ Hk
  iapply (Rounds.wp_wait_rest_token 𝒱₀ ER (Rd m) (c : Thread nD τ) none (κ := K (recvCell c))
      (wpE_waitDma2_eq (src := rowsB) (dst := haloM) 𝒱₀ (c : Thread nD τ) none Set.univ) (Set.mem_univ _) () (O := 0) (W := W) (R := 0) (m := 0) (T := ∅)
      ((Nat.zero_add _).trans (expect_recv m c h).symm)) $$ [Hc HO Hat]
  · isplitr
    · iexact HI
    isplitl [Hc]
    · iexact Hc
    isplitl [HO]
    · iexact HO
    isplitr
    · rw [MayWait_zero]
      iempintro
    iexact Hat
  iintro ⟨HO, Hat, -, Hpay⟩
  ihave Hpay := (Entails.of_eq (rest_recv m c h)) $$ Hpay
  unfold recvPay
  icases Hpay with ⟨%g, HG⟩
  ihave Hw := (halves m c f g ι) $$ [HH HG]
  · isplitr
    · iexact Hwm
    isplitl [HG]
    · iexact HG
    iexact HH
  iapply fupd_wp
  imod Hw with Hw
  imodintro
  iapply Hk $$ [Hw] Hat [HO]
  · unfold haloRows
    rw [if_pos h]
    iexact Hw
  iexists _
  iexact HO

/-- The wait for the own copy to have left. -/
theorem wait_send {Q : PUnit → sProp 𝕄} (h : hasR c) {h1 h2} {W : Waits sig Unit} :
    iprop(fixed m K ι c ∗ credS (F := F) c ∗ atPos ER (sendCell c) 0 ∅ 0 ∗ owes (c : Thread nD τ) 0 W)
      ⊢ iprop((atPos ER (sendCell c) (0 + 1) ∅ 0 -∗ (∃ W, owes (c : Thread nD τ) 0 W) -∗ run c (k ⟨⟩) Q)
        -∗ run c (.op (.waitDma2 cc0_scratch2.sem haloM rowsB h1 h2) k) Q) := by
  unfold fixed invs credS
  rw [if_pos h]
  iintro ⟨⟨⟨-, #HI, -, -, -, -, -⟩, -, -⟩, Hc, Hat, HO⟩ Hk
  iapply (Rounds.wp_wait_rest_token 𝒱₀ ER (Rd m) (c : Thread nD τ) none (κ := K (sendCell c))
      (wpE_waitDma2_eq (src := haloM) (dst := rowsB) 𝒱₀ (c : Thread nD τ) none Set.univ) (Set.mem_univ _) () (O := 0) (W := W) (R := 0) (m := 0) (T := ∅)
      ((Nat.zero_add _).trans (expect_send m c h).symm)) $$ [Hc HO Hat]
  · isplitr
    · iexact HI
    isplitl [Hc]
    · iexact Hc
    isplitl [HO]
    · iexact HO
    isplitr
    · rw [MayWait_zero]
      iempintro
    iexact Hat
  iintro ⟨HO, Hat, -, -⟩
  iapply Hk $$ Hat [HO]
  iexists _
  iexact HO

end Ops

end Cert.KernelIdeal.Conv

end
-- ==== Proof.First.lean ====
/-
  The first step, on each kind of device: the words to the neighbours, the local copy, the first block.
-/
module

public import proofs.«01_k».proof.Proof.Talk

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

variable (m : (ℓ : Loc nD τ sig) → Buf (Elt F) ℓ)

/-- The step after the words: the local copy, then the arithmetic. -/
theorem first_rest (K : GSem nD τ sig → ℕ) (ι : ℕ) (c : Dev nD) (t : Fin cfg0.N) (ht : t.val = 0)
    {h1 h2 h3 h4 h5 hl1 hl2 hl3 hl4 hl5 hl6 hx1 hm1 hx2 hm2} {W : Waits sig Unit} {Q : PUnit → sProp 𝕄} :
    iprop(fixed m K ι c ∗ srcA m c ∗ (∃ f, tailPts (F := F) c f) ∗ dutyTok ER (locCell c) 0 false ∗ reached ER (locCell c) 0
        ∗ atPos ER (locCell c) 0 ∅ 0 ∗ owes (c : Thread nD τ) (oRecv c) W ∗ haloMid m c ∗ stPre m c t)
      ⊢ iprop((haloMid m c -∗ tailPts c (tailAt m c (t.val + 1)) -∗ atPos ER (locCell c) (0 + 1) ∅ 0
            -∗ (∃ W, owes (c : Thread nD τ) (oRecv c) W) -∗ stPost m c t -∗ run c (.ret PUnit.unit) Q)
        -∗ run c (.op (.enqueueDma rowsA (.here tailM) (.dma cc0_scratch4.sem) h1 h2 h3) fun _ =>
            .op (.waitDma2 cc0_scratch4.sem rowsA tailM h4 h5) fun _ =>
              computeProg (grid0.coords t) (win0_0.stage (cfg0.slots t 0)) (win0_1.stage (cfg0.slots t 1)) (win0_2.stage (cfg0.slots t 2))
                hl1 hl2 hl3 hl4 hl5 hl6 hx1 hm1 hx2 hm2) Q) := by
  have h0 : tailAt m c 0 = tailAt m c t.val := by rw [ht]
  iintro ⟨#Hf, HA, HT, Ht, #Hr, Hat, HO, HH, HS⟩ Hk
  iapply (copy_tail m K ι c) $$ [HA HT Ht Hat HO]
  · iframe
    isplitr
    · iexact Hf
    iexact Hr
  iintro HT Hat HO
  rw [h0]
  iapply (compute_mid m c t (by omega) ι Q) $$ [HH HT HS]
  · isplitl [HH]
    · isplitr
      · unfold fixed
        icases Hf with ⟨-, Hwm, -⟩
        iexact Hwm
      iexact HH
    isplitl [HT]
    · iexact HT
    iexact HS
  iintro ⟨-, HH⟩ HT HS
  iapply Hk $$ HH HT Hat HO HS

theorem oNx_none (c : Dev nD) (h : ¬ hasR c) : oNx c = 0 := if_neg h
theorem oPv_none (c : Dev nD) (h : ¬ hasL c) : oPv c = 0 := if_neg h
theorem oRecv_none (c : Dev nD) (h : ¬ hasR c) : oRecv c = 0 := if_neg h

/-- A device between two others. -/
theorem first_mid (c : Dev nD) (hl : hasL c) (hr : hasR c) (t : Fin cfg0.N) (ht : t.val = 0) : StepRuns m c t := by
  intro K ι
  have c1 : k0_cond1 (grid0.coords t) = 1#1 := (cond1_iff t).2 ht
  have c5 : ¬ k0_cond5 (grid0.coords t) = 1#1 := fun h => absurd ((cond5_iff t).1 h) (by omega)
  have c7 : ¬ _ := fun h => absurd ((last_iff t).1 h) (by omega)
  have c2 : k0_cond2 c = 1#1 := (cond2_iff c).2 hl
  have c3 : k0_cond3 c = 1#1 := (cond3_iff c).2 hr
  have c4 : ¬ _ := fun h => (first_iff c).1 h hl
  rw [phase_A m c (t.val + 1) (by omega) (by omega), owedAt_A c (t.val + 1) (by omega) (by omega),
    show phase m c t.val = phase0 m c by rw [ht]; exact phase_zero m c, show owedAt c t.val = O₀ c by rw [ht]; rfl]
  unfold bodyAt0
  rw [cc0_body_eq_skeleton]; unfold cc0_body_skel
  rw [k0_part1_eq_skeleton]; unfold k0_part1_skel
  simp only [dif_pos c1, dif_neg c5, dif_neg c7, dif_pos c2, dif_pos c3, dif_neg c4, Prog.lift, Prog.bind_op, Prog.bind_ret,
    Prog.pure_eq_ret, wp_deviceId, semSignalWord, semWaitWord]
  unfold phase0 phaseA
  iintro ⟨#Hf, ⟨Hb, Hs, Hr, Hl, #Hrs, #Hrr, #Hrl, #Hrp, #Hrn, Htp, Htn, Htr, Hts, Htl, Hcb, Hcr, HA, HB, HH, HT⟩, ⟨%W, HO⟩, HS⟩
  iapply (say_left m K ι c hl (Fin.ext (dev1_eq c hl)) (by decide)) $$ [HH Htp HO]
  · iframe
    isplitr
    · iexact Hf
    isplitr
    · iexact Hrr
    iexact Hrp
  iintro HH HO
  iapply (say_right m K ι c hr (Fin.ext (dev2_eq c hr)) (by decide)) $$ [Htn HO]
  · iframe
    isplitr
    · iexact Hf
    iexact Hrn
  iintro HO
  iapply (first_rest m K ι c t ht) $$ [HA HT Htl Hl HO HH HS]
  · iframe
    isplitr
    · iexact Hf
    iexact Hrl
  iintro HH HT Hl HO HS
  unfold run
  rw [wp_ret]
  imodintro
  iframe
  iexact Hrs

/-- The first device. -/
theorem first_left (c : Dev nD) (hl : ¬ hasL c) (hr : hasR c) (t : Fin cfg0.N) (ht : t.val = 0) : StepRuns m c t := by
  intro K ι
  have c1 : k0_cond1 (grid0.coords t) = 1#1 := (cond1_iff t).2 ht
  have c5 : ¬ k0_cond5 (grid0.coords t) = 1#1 := fun h => absurd ((cond5_iff t).1 h) (by omega)
  have c7 : ¬ _ := fun h => absurd ((last_iff t).1 h) (by omega)
  have c2 : ¬ k0_cond2 c = 1#1 := fun h => hl ((cond2_iff c).1 h)
  have c3 : k0_cond3 c = 1#1 := (cond3_iff c).2 hr
  have c4 := (first_iff c).2 hl
  rw [phase_A m c (t.val + 1) (by omega) (by omega), owedAt_A c (t.val + 1) (by omega) (by omega),
    show phase m c t.val = phase0 m c by rw [ht]; exact phase_zero m c, show owedAt c t.val = O₀ c by rw [ht]; rfl, show O₀ c = oRecv c + oNx c by unfold O₀; rw [oPv_none c hl, add_zero]]
  unfold bodyAt0
  rw [cc0_body_eq_skeleton]; unfold cc0_body_skel
  rw [k0_part1_eq_skeleton]; unfold k0_part1_skel
  simp only [dif_pos c1, dif_neg c5, dif_neg c7, dif_neg c2, dif_pos c3, dif_pos c4, Prog.lift, Prog.bind_op, Prog.bind_ret,
    Prog.pure_eq_ret, wp_deviceId, semSignalWord, semWaitWord]
  unfold phase0 phaseA
  iintro ⟨#Hf, ⟨Hb, Hs, Hr, Hl, #Hrs, #Hrr, #Hrl, #Hrp, #Hrn, Htp, Htn, Htr, Hts, Htl, Hcb, Hcr, HA, HB, HH, HT⟩, ⟨%W, HO⟩, HS⟩
  iapply (say_right m K ι c hr (Fin.ext (dev2_eq c hr)) (by decide)) $$ [Htn HO]
  · iframe
    isplitr
    · iexact Hf
    iexact Hrn
  iintro HO
  iapply (zero_halo m c hl) $$ HH
  iintro HH
  iapply (first_rest m K ι c t ht) $$ [HA HT Htl Hl HO HH HS]
  · iframe
    isplitr
    · iexact Hf
    iexact Hrl
  iintro HH HT Hl HO HS
  unfold run
  rw [wp_ret]
  imodintro
  iframe
  iexact Hrs

/-- The last device. -/
theorem first_right (c : Dev nD) (hl : hasL c) (hr : ¬ hasR c) (t : Fin cfg0.N) (ht : t.val = 0) : StepRuns m c t := by
  intro K ι
  have c1 : k0_cond1 (grid0.coords t) = 1#1 := (cond1_iff t).2 ht
  have c5 : ¬ k0_cond5 (grid0.coords t) = 1#1 := fun h => absurd ((cond5_iff t).1 h) (by omega)
  have c7 : ¬ _ := fun h => absurd ((last_iff t).1 h) (by omega)
  have c2 : k0_cond2 c = 1#1 := (cond2_iff c).2 hl
  have c3 : ¬ k0_cond3 c = 1#1 := fun h => hr ((cond3_iff c).1 h)
  have c4 : ¬ _ := fun h => (first_iff c).1 h hl
  rw [phase_A m c (t.val + 1) (by omega) (by omega), owedAt_A c (t.val + 1) (by omega) (by omega),
    show phase m c t.val = phase0 m c by rw [ht]; exact phase_zero m c, show owedAt c t.val = O₀ c by rw [ht]; rfl]
  unfold bodyAt0
  rw [cc0_body_eq_skeleton]; unfold cc0_body_skel
  rw [k0_part1_eq_skeleton]; unfold k0_part1_skel
  simp only [dif_pos c1, dif_neg c5, dif_neg c7, dif_pos c2, dif_neg c3, dif_neg c4, Prog.lift, Prog.bind_op, Prog.bind_ret,
    Prog.pure_eq_ret, wp_deviceId, semSignalWord, semWaitWord]
  unfold phase0 phaseA
  iintro ⟨#Hf, ⟨Hb, Hs, Hr, Hl, #Hrs, #Hrr, #Hrl, #Hrp, #Hrn, Htp, Htn, Htr, Hts, Htl, Hcb, Hcr, HA, HB, HH, HT⟩, ⟨%W, HO⟩, HS⟩
  iapply (say_left m K ι c hl (Fin.ext (dev1_eq c hl)) (by decide)) $$ [HH Htp HO]
  · iframe
    isplitr
    · iexact Hf
    isplitr
    · iexact Hrr
    iexact Hrp
  iintro HH HO
  rw [oNx_none c hr, add_zero]
  iapply (first_rest m K ι c t ht) $$ [HA HT Htl Hl HO HH HS]
  · iframe
    isplitr
    · iexact Hf
    iexact Hrl
  iintro HH HT Hl HO HS
  unfold run
  rw [wp_ret]
  imodintro
  iframe
  iexact Hrs

theorem step_first (c : Dev nD) (t : Fin cfg0.N) (ht : t.val = 0) : StepRuns m c t := by
  by_cases hl : hasL c
  · by_cases hr : hasR c
    · exact first_mid m c hl hr t ht
    · exact first_right m c hl hr t ht
  · exact first_left m c hl (lt_of_le_of_lt (Nat.le_of_not_lt hl) (by decide)) t ht

end Cert.KernelIdeal.Conv

end
-- ==== Proof.Quiet.lean ====
/-
  The steps that talk to nobody: all but the first, the third and the last.
-/
module

public import proofs.«01_k».proof.Proof.State

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU F) ℕ

variable (m : (ℓ : Loc nD τ sig) → Buf (Elt F) ℓ)

theorem quiet_runs (c : Dev nD) (t : Fin cfg0.N) (ι : ℕ) (R : sProp 𝕄) (h0 : t.val ≠ 0) (h2 : t.val ≠ 2) (h7 : t.val ≠ 7) :
    iprop(wmInv (EW F) ι ∗ haloMid m c ∗ tailPts c (tailAt m c t.val) ∗ stPre m c t ∗ R)
      ⊢ wp frame (wpE (defs₀ (F := F)) 𝒱₀ (c : Thread nD τ) none) Set.univ (bodyAt0 t) fun _ =>
          iprop(haloMid m c ∗ tailPts c (tailAt m c (t.val + 1)) ∗ stPost m c t ∗ R) := by
  have c1 : ¬ k0_cond1 (grid0.coords t) = 1#1 := fun h => h0 ((cond1_iff t).1 h)
  have c5 : ¬ k0_cond5 (grid0.coords t) = 1#1 := fun h => h2 ((cond5_iff t).1 h)
  have c7 : ¬ _ := fun h => h7 ((last_iff t).1 h)
  unfold bodyAt0
  rw [cc0_body_eq_skeleton]; unfold cc0_body_skel
  rw [k0_part1_eq_skeleton]; unfold k0_part1_skel
  simp only [dif_neg c1, dif_neg c5, dif_neg c7, Prog.lift, Prog.bind_op, Prog.bind_ret, Prog.pure_eq_ret, wp_deviceId]
  iintro ⟨#Hwm, HH, HT, HS, HR⟩
  iapply (compute_mid m c t h7 ι _) $$ [HH HT HS]
  · isplitl [HH]
    · isplitr
      · iexact Hwm
      iexact HH
    isplitl [HT]
    · iexact HT
    iexact HS
  iintro ⟨-, HH⟩ HT HS
  rw [wp_ret]
  imodintro
  isplitl [HH]
  · iexact HH
  isplitl [HT]
  · iexact HT
  isplitl [HS]
  · iexact HS
  iexact HR

/-- The second step, before the neighbours are heard. -/
theorem step_second (c : Dev nD) (t : Fin cfg0.N) (ht : t.val = 1) : StepRuns m c t := by
  intro K ι
  rw [phase_A m c t.val (by omega) (by omega), phase_A m c (t.val + 1) (by omega) (by omega),
    owedAt_A c t.val (by omega) (by omega), owedAt_A c (t.val + 1) (by omega) (by omega)]
  unfold phaseA fixed
  iintro ⟨⟨-, #Hwm, -⟩, ⟨Hb, Hs, Hr, Hl, Hrs, Htr, Hts, Hcb, Hcr, HB, HH, HT⟩, HO, HS⟩
  ihave Hw := (quiet_runs m c t ι _ (by omega) (by omega) (by omega)) $$ [HH HT HS Hb Hs Hr Hl Hrs Htr Hts Hcb Hcr HB HO]
  · isplitr
    · iexact Hwm
    isplitl [HH]
    · iexact HH
    isplitl [HT]
    · iexact HT
    isplitl [HS]
    · iexact HS
    icombine Hb Hs Hr Hl Hrs Htr Hts Hcb Hcr HB HO as HX
    iexact HX
  iapply (wp_wand frame (wpE (defs₀ (F := F)) 𝒱₀ (c : Thread nD τ) none) Set.univ) $$ Hw
  iintro %_ ⟨HH, HT, HS, Hb, Hs, Hr, Hl, Hrs, Htr, Hts, Hcb, Hcr, HB, HO⟩
  iframe

/-- The steps during which the copies are under way. -/
theorem step_between (c : Dev nD) (t : Fin cfg0.N) (h3 : 3 ≤ t.val) (h6 : t.val ≤ 6) : StepRuns m c t := by
  intro K ι
  rw [phase_B m c t.val (by omega) (by omega), phase_B m c (t.val + 1) (by omega) (by omega),
    owedAt_B c t.val (by omega), owedAt_B c (t.val + 1) (by omega)]
  unfold phaseB fixed
  iintro ⟨⟨-, #Hwm, -⟩, ⟨Hb, Hs, Hr, Hl, Hcs, Hcr, HH, HT⟩, HO, HS⟩
  ihave Hw := (quiet_runs m c t ι _ (by omega) (by omega) (by omega)) $$ [HH HT HS Hb Hs Hr Hl Hcs Hcr HO]
  · isplitr
    · iexact Hwm
    isplitl [HH]
    · iexact HH
    isplitl [HT]
    · iexact HT
    isplitl [HS]
    · iexact HS
    icombine Hb Hs Hr Hl Hcs Hcr HO as HX
    iexact HX
  iapply (wp_wand frame (wpE (defs₀ (F := F)) 𝒱₀ (c : Thread nD τ) none) Set.univ) $$ Hw
  iintro %_ ⟨HH, HT, HS, Hb, Hs, Hr, Hl, Hcs, Hcr, HO⟩
  iframe

end Cert.KernelIdeal.Conv

end
-- ==== Proof.Last.lean ====
/-
  The third step, where the neighbours are heard and the copy to the right leaves, and the last, where it has landed and every
  counter is closed.
-/
module

public import proofs.«01_k».proof.Proof.First
public import proofs.«01_k».proof.Proof.Quiet

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig Unit (Elt F) ℕ (UU F) ℕ

variable (m : (ℓ : Loc nD τ sig) → Buf (Elt F) ℓ)

theorem amt_int : ∀ c : Dev nD, (k0_amt1 c).toInt = ((nbrs c : ℕ) : ℤ) := by decide +kernel

/-- Heard, with a neighbour to the right. -/
theorem third_send (c : Dev nD) (hr : hasR c) (t : Fin cfg0.N) (ht : t.val = 2) : StepRuns m c t := by
  intro K ι
  have c1 : ¬ k0_cond1 (grid0.coords t) = 1#1 := fun h => absurd ((cond1_iff t).1 h) (by omega)
  have c5 : k0_cond5 (grid0.coords t) = 1#1 := (cond5_iff t).2 ht
  have c7 : ¬ _ := fun h => absurd ((last_iff t).1 h) (by omega)
  have c6 : k0_cond6 c = 1#1 := (cond6_iff c).2 hr
  rw [phase_A m c t.val (by omega) (by omega), phase_B m c (t.val + 1) (by omega) (by omega),
    owedAt_A c t.val (by omega) (by omega), owedAt_B c (t.val + 1) (by omega)]
  unfold bodyAt0
  rw [cc0_body_eq_skeleton]; unfold cc0_body_skel
  rw [k0_part1_eq_skeleton]; unfold k0_part1_skel
  simp only [dif_neg c1, dif_pos c5, dif_neg c7, dif_pos c6, Prog.lift, Prog.bind_op, Prog.bind_ret,
    Prog.pure_eq_ret, wp_deviceId, semSignalWord, semWaitWord]
  unfold phaseA phaseB
  iintro ⟨#Hf, ⟨Hb, Hs, Hr, Hl, #Hrs, Htr, Hts, Hcb, Hcr, HB, HH, HT⟩, ⟨%W, HO⟩, HS⟩
  iapply (hear m K ι c (amt_int c)) $$ [Hb Hcb HO]
  · iframe
    iexact Hf
  iintro Hb Hpay ⟨%W', HO⟩
  ihave Hpay := (rest_bar m c hr) $$ Hpay
  iapply (send m K ι c hr (Fin.ext (dev3_eq c hr))) $$ [HB Hpay Hts Htr HO]
  · iframe
    isplitr
    · iexact Hf
    iexact Hrs
  iintro Hcs HO
  iapply (compute_mid m c t (by omega) ι _) $$ [HH HT HS]
  · isplitl [HH]
    · isplitr
      · unfold fixed
        icases Hf with ⟨-, Hwm, -⟩
        iexact Hwm
      iexact HH
    isplitl [HT]
    · iexact HT
    iexact HS
  iintro ⟨-, HH⟩ HT HS
  rw [wp_ret]
  imodintro
  iframe

/-- Heard, on the last device. -/
theorem third_alone (c : Dev nD) (hr : ¬ hasR c) (t : Fin cfg0.N) (ht : t.val = 2) : StepRuns m c t := by
  intro K ι
  have c1 : ¬ k0_cond1 (grid0.coords t) = 1#1 := fun h => absurd ((cond1_iff t).1 h) (by omega)
  have c5 : k0_cond5 (grid0.coords t) = 1#1 := (cond5_iff t).2 ht
  have c7 : ¬ _ := fun h => absurd ((last_iff t).1 h) (by omega)
  have c6 : ¬ k0_cond6 c = 1#1 := fun h => hr ((cond6_iff c).1 h)
  rw [phase_A m c t.val (by omega) (by omega), phase_B m c (t.val + 1) (by omega) (by omega),
    owedAt_A c t.val (by omega) (by omega), owedAt_B c (t.val + 1) (by omega)]
  unfold bodyAt0
  rw [cc0_body_eq_skeleton]; unfold cc0_body_skel
  rw [k0_part1_eq_skeleton]; unfold k0_part1_skel
  simp only [dif_neg c1, dif_pos c5, dif_neg c7, dif_neg c6, Prog.lift, Prog.bind_op, Prog.bind_ret,
    Prog.pure_eq_ret, wp_deviceId, semSignalWord, semWaitWord]
  unfold phaseA phaseB
  iintro ⟨#Hf, ⟨Hb, Hs, Hr, Hl, #Hrs, Htr, Hts, Hcb, Hcr, HB, HH, HT⟩, ⟨%W, HO⟩, HS⟩
  iapply (hear m K ι c (amt_int c)) $$ [Hb Hcb HO]
  · iframe
    iexact Hf
  iintro Hb - HO
  rw [oRecv_none c hr]
  iapply (compute_mid m c t (by omega) ι _) $$ [HH HT HS]
  · isplitl [HH]
    · isplitr
      · unfold fixed
        icases Hf with ⟨-, Hwm, -⟩
        iexact Hwm
      iexact HH
    isplitl [HT]
    · iexact HT
    iexact HS
  iintro ⟨-, HH⟩ HT HS
  rw [wp_ret]
  imodintro
  unfold credS
  rw [if_neg hr]
  iframe

theorem step_third (c : Dev nD) (t : Fin cfg0.N) (ht : t.val = 2) : StepRuns m c t := by
  by_cases hr : hasR c
  · exact third_send m c hr t ht
  · exact third_alone m c hr t ht

/-- A cell whose duties from round `r` on are none closes at zero. -/
theorem close (g : GSem nD τ sig) (κ r : ℕ) (h : ∀ r', r ≤ r' → (Rd (F := F) m).duties g r' = ∅) :
    iprop(cellInv ER (Rd m) κ g ∗ atPos ER g r ∅ 0) ⊢ iprop(|={Set.univ}=> semVal g 0) :=
  Rounds.cell_close ER (Rd m) (Set.mem_univ κ) id h

/-- What is left after the waits: the last block, and the four cells to close. -/
theorem last_rest (K : GSem nD τ sig → ℕ) (ι : ℕ) (c : Dev nD) (t : Fin cfg0.N) (ht : t.val = 7) {rs rr : ℕ}
    (hs : ∀ r', rs ≤ r' → (Rd (F := F) m).duties (sendCell c) r' = ∅) (hr : ∀ r', rr ≤ r' → (Rd (F := F) m).duties (recvCell c) r' = ∅)
    {hl1 hl2 hl3 hl4 hl5 hl6 hx1 hm1 hx2 hm2} :
    iprop(fixed m K ι c ∗ atPos ER (barCell c) (0 + 1) ∅ 0 ∗ atPos ER (sendCell c) rs ∅ 0 ∗ atPos ER (recvCell c) rr ∅ 0
        ∗ atPos ER (locCell c) (0 + 1) ∅ 0 ∗ haloPts c (haloRows m c) ∗ tailPts c (tailAt m c t.val)
        ∗ (∃ W, owes (c : Thread nD τ) 0 W) ∗ stPre m c t)
      ⊢ run c (computeProg (grid0.coords t) (win0_0.stage (cfg0.slots t 0)) (win0_1.stage (cfg0.slots t 1)) (win0_2.stage (cfg0.slots t 2))
                hl1 hl2 hl3 hl4 hl5 hl6 hx1 hm1 hx2 hm2)
          fun _ => iprop(phase m c (t.val + 1) ∗ (∃ W, owes (c : Thread nD τ) (owedAt c (t.val + 1)) W) ∗ stPost m c t) := by
  rw [phase_C m c (t.val + 1) (by omega), owedAt_B c (t.val + 1) (by omega)]
  unfold run fixed invs phaseC
  iintro ⟨⟨⟨#Ib, #Is, #Ir, #Il, -, -, -⟩, -, -⟩, Hb, Hs, Hr, Hl, HH, HT, HO, HS⟩
  iapply (compute_last m c t _) $$ [HH HT HS]
  · iframe
  iintro HH HT HS
  rw [wp_ret]
  imod (close m (barCell c) _ _ (duties_later m (barCell c))) $$ [Hb] with Hb
  · iframe
    iexact Ib
  imod (close m (sendCell c) _ _ hs) $$ [Hs] with Hs
  · iframe
    iexact Is
  imod (close m (recvCell c) _ _ hr) $$ [Hr] with Hr
  · iframe
    iexact Ir
  imod (close m (locCell c) _ _ (duties_later m (locCell c))) $$ [Hl] with Hl
  · iframe
    iexact Il
  imodintro
  isplitl [Hb Hs Hr Hl HH HT]
  · iframe
    isplitl [HH]
    · iexists _
      iexact HH
    iexists _
    iexact HT
  iframe

/-- The last step between two devices. -/
theorem last_mid (c : Dev nD) (hl : hasL c) (hr : hasR c) (t : Fin cfg0.N) (ht : t.val = 7) : StepRuns m c t := by
  intro K ι
  have c1 : ¬ k0_cond1 (grid0.coords t) = 1#1 := fun h => absurd ((cond1_iff t).1 h) (by omega)
  have c5 : ¬ k0_cond5 (grid0.coords t) = 1#1 := fun h => absurd ((cond5_iff t).1 h) (by omega)
  have c7 := (last_iff t).2 ht
  have c8 := (placeL_iff c).2 hl
  have c9 := (placeR_iff c).2 hr
  rw [phase_B m c t.val (by omega) (by omega), owedAt_B c t.val (by omega)]
  unfold bodyAt0
  rw [cc0_body_eq_skeleton]; unfold cc0_body_skel
  rw [k0_part1_eq_skeleton]; unfold k0_part1_skel
  simp only [dif_neg c1, dif_neg c5, dif_pos c7, dif_pos c8, dif_pos c9, Prog.lift, Prog.bind_op, Prog.bind_ret,
    Prog.pure_eq_ret, wp_deviceId, semSignalWord, semWaitWord]
  unfold phaseB
  iintro ⟨#Hf, ⟨Hb, Hs, Hr, Hl, Hcs, Hcr, HH, HT⟩, ⟨%W, HO⟩, HS⟩
  iapply (wait_recv m K ι c hl) $$ [HH Hcr Hr HO]
  · iframe
    iexact Hf
  iintro HH Hr ⟨%W', HO⟩
  iapply (wait_send m K ι c hr) $$ [Hcs Hs HO]
  · iframe
    iexact Hf
  iintro Hs HO
  iapply (last_rest m K ι c t ht (duties_later m (sendCell c)) (duties_later m (recvCell c)))
  iframe
  iexact Hf

/-- The last step of the first device. -/
theorem last_left (c : Dev nD) (hl : ¬ hasL c) (hr : hasR c) (t : Fin cfg0.N) (ht : t.val = 7) : StepRuns m c t := by
  intro K ι
  have c1 : ¬ k0_cond1 (grid0.coords t) = 1#1 := fun h => absurd ((cond1_iff t).1 h) (by omega)
  have c5 : ¬ k0_cond5 (grid0.coords t) = 1#1 := fun h => absurd ((cond5_iff t).1 h) (by omega)
  have c7 := (last_iff t).2 ht
  have c8 : ¬ _ := fun h => hl ((placeL_iff c).1 h)
  have c9 := (placeR_iff c).2 hr
  rw [phase_B m c t.val (by omega) (by omega), owedAt_B c t.val (by omega)]
  unfold bodyAt0
  rw [cc0_body_eq_skeleton]; unfold cc0_body_skel
  rw [k0_part1_eq_skeleton]; unfold k0_part1_skel
  simp only [dif_neg c1, dif_neg c5, dif_pos c7, dif_neg c8, dif_pos c9, Prog.lift, Prog.bind_op, Prog.bind_ret,
    Prog.pure_eq_ret, wp_deviceId, semSignalWord, semWaitWord]
  unfold phaseB
  iintro ⟨#Hf, ⟨Hb, Hs, Hr, Hl, Hcs, Hcr, HH, HT⟩, ⟨%W, HO⟩, HS⟩
  ihave HH := (Entails.of_eq (show haloMid m c = haloPts c (haloRows m c) from if_neg hl)) $$ HH
  iapply (wait_send m K ι c hr) $$ [Hcs Hs HO]
  · iframe
    iexact Hf
  iintro Hs HO
  iapply (last_rest m K ι c t ht (duties_later m (sendCell c)) (duties_recv_none m c hl))
  iframe
  iexact Hf

/-- The last step of the last device. -/
theorem last_right (c : Dev nD) (hl : hasL c) (hr : ¬ hasR c) (t : Fin cfg0.N) (ht : t.val = 7) : StepRuns m c t := by
  intro K ι
  have c1 : ¬ k0_cond1 (grid0.coords t) = 1#1 := fun h => absurd ((cond1_iff t).1 h) (by omega)
  have c5 : ¬ k0_cond5 (grid0.coords t) = 1#1 := fun h => absurd ((cond5_iff t).1 h) (by omega)
  have c7 := (last_iff t).2 ht
  have c8 := (placeL_iff c).2 hl
  have c9 : ¬ _ := fun h => hr ((placeR_iff c).1 h)
  rw [phase_B m c t.val (by omega) (by omega), owedAt_B c t.val (by omega)]
  unfold bodyAt0
  rw [cc0_body_eq_skeleton]; unfold cc0_body_skel
  rw [k0_part1_eq_skeleton]; unfold k0_part1_skel
  simp only [dif_neg c1, dif_neg c5, dif_pos c7, dif_pos c8, dif_neg c9, Prog.lift, Prog.bind_op, Prog.bind_ret,
    Prog.pure_eq_ret, wp_deviceId, semSignalWord, semWaitWord]
  unfold phaseB
  iintro ⟨#Hf, ⟨Hb, Hs, Hr, Hl, Hcs, Hcr, HH, HT⟩, ⟨%W, HO⟩, HS⟩
  iapply (wait_recv m K ι c hl) $$ [HH Hcr Hr HO]
  · iframe
    iexact Hf
  iintro HH Hr HO
  iapply (last_rest m K ι c t ht (duties_send_none m c hr) (duties_later m (recvCell c)))
  iframe
  iexact Hf

theorem step_last (c : Dev nD) (t : Fin cfg0.N) (ht : t.val = 7) : StepRuns m c t := by
  by_cases hl : hasL c
  · by_cases hr : hasR c
    · exact last_mid m c hl hr t ht
    · exact last_right m c hl hr t ht
  · exact last_left m c hl (lt_of_le_of_lt (Nat.le_of_not_lt hl) (by decide)) t ht

/-- Every step runs: the body's obligation. -/
theorem body (c : Dev nD) : BodyObligation (dat0 m c) (defs₀ (F := F)) 𝒱₀ () Set.univ := by
  refine body_of m c fun t => ?_
  have h8 : t.val < 8 := lt_of_lt_of_eq t.isLt N_0
  by_cases h0 : t.val = 0
  · exact step_first m c t h0
  by_cases h1 : t.val = 1
  · exact step_second m c t h1
  by_cases h2 : t.val = 2
  · exact step_third m c t h2
  by_cases h7 : t.val = 7
  · exact step_last m c t h7
  exact step_between m c t (by omega) (by omega)

end Cert.KernelIdeal.Conv

end
-- ==== Proof.Region.lean ====
/-
  The pipelined call as one region of the program: what a device brings to it, what it takes away.
-/
module

public import proofs.«01_k».proof.Proof.Last

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ (UU F) ℕ

variable (m : (ℓ : Loc nD τ sig) → Buf (Elt F) ℓ)

/-- A whole buffer of device c. -/
abbrev pt (c : Dev nD) (b : Ref sig .tc) (q : PosShare TreeShare) (f : Buf (Elt F) ((c : Thread nD τ).loc b)) : sProp 𝕄 :=
  ((c : Thread nD τ).loc b) ↦{q} f

/-- The result array after the last step. -/
abbrev result (c : Dev nD) : Buf (Elt F) ((c : Thread nD τ).loc main_v1) := (dat0 m c).arrAt 2 cfg0.N

/-- The kernel's own semaphores. -/
def osem : Fin 3 → SemLoc sig := fun | 0 => .dma cc0_scratch2.sem | 1 => .dma cc0_scratch3.sem | 2 => .dma cc0_scratch4.sem

theorem own_facts : Pipeline.OwnSemFacts spec0 osem := by decide

theorem ownSems_eq (c : Dev nD) :
    (Pipeline.ownSems0 osem c : sProp 𝕄) = iprop(semVal (sendCell c) 0 ∗ semVal (recvCell c) 0 ∗ semVal (locCell c) 0) :=
  Pipeline.ownSems0_eq_of_list c osem [0, 1, 2] (by decide) (by decide)

theorem bufs_eq (c : Dev nD) (V : (b : Ref sig .tc) → Buf (Elt F) ((c : Thread nD τ).loc b)) :
    (unscopedBufs c V : sProp 𝕄) = iprop(pt c main_arg0 fullShare (V main_arg0) ∗ pt c main_arg1 fullShare (V main_arg1)
      ∗ pt c main_v1 fullShare (V main_v1)) := by
  unfold unscopedBufs
  rw [bigSep_eq_bigSepL_of_eq [main_arg0, main_arg1, main_v1] (by decide) (by decide)]
  rfl

theorem bigSep_fin_zero (Φ : Fin 0 → sProp 𝕄) : bigSep Finset.univ Φ = BI.emp :=
  bigSep_univ_eq_bigSepL [] (by decide) (by decide) Φ

theorem prefHeld_emp (c : Dev nD) (q) (pf) :
    (Pipeline.prefHeld (Ix := Unit) (Name := ℕ) (U := UU F) (Lvl := ℕ) (Val := Elt F) (pcfgs (F := F) 0).pre c q pf : sProp 𝕄) = BI.emp :=
  bigSep_fin_zero _

/-- A whole buffer, said through the view of all of it. -/
theorem pt_view (c : Dev nD) (b : Ref sig .tc) (q : PosShare TreeShare) (f : Buf (Elt F) ((c : Thread nD τ).loc b)) :
    (pt c b q f : sProp 𝕄) = ((c : Thread nD τ).loc b) ↦[(Memref.whole b).view.set]{q} f := by
  rw [show (Memref.whole b).view.set = Finset.univ from View.set_whole b]

theorem arrays_eq (c : Dev nD) (G : (w : Fin cfg0.W) → Buf (Elt F) ((cfg0.win w).arr.view.loc (c : Thread nD τ))) :
    ((dat0 m c).arrays G : sProp 𝕄) = iprop(pt c main_arg0 fullShare.left (G 0) ∗ pt c main_arg1 fullShare (G 1)
      ∗ pt c main_v1 fullShare (G 2)) := by
  rw [pt_view, pt_view, pt_view]
  unfold Dat.arrays
  rw [bigSep_W0]
  rfl

theorem rest_eq (c : Dev nD) :
    (Pipeline.scopedRest (Ix := Unit) (Name := ℕ) (U := UU F) (Lvl := ℕ) (Val := Elt F) spec0 c : sProp 𝕄)
      = iprop((∃ f, tailPts (F := F) c f) ∗ ∃ f, haloPts (F := F) c f) := by
  rw [scopedRest0_eq]
  unfold tailPts haloPts
  rw [show haloM.view.set = Finset.univ from View.set_whole _, show tailM.view.set = Finset.univ from View.set_whole _]

/-! ## From the launch to the region -/

/-- What device c carries from the launch: the invariants, its open barrier cell, the right to open its other three, the
    tokens it pays with. -/
def ghost (K : GSem nD τ sig → ℕ) (ι : ℕ) (c : Dev nD) : sProp 𝕄 :=
  iprop(invs m K c ∗ wmInv (EW F) ι
    ∗ atPos ER (barCell c) 0 ∅ 0 ∗ openTok ER (sendCell c) ∗ openTok ER (recvCell c) ∗ openTok ER (locCell c)
    ∗ reached ER (barCell (pv c)) 0 ∗ reached ER (barCell (nx c)) 0
    ∗ dutyTok ER (barCell (pv c)) 0 false ∗ dutyTok ER (barCell (nx c)) 0 true ∗ dutyTok ER (recvCell (nx c)) 0 false
    ∗ dutyTok ER (sendCell c) 0 false ∗ dutyTok ER (locCell c) 0 false)

/-- With the credit it waits with. -/
def start (c : Dev nD) : sProp 𝕄 :=
  iprop((∃ K ι, ghost m K ι c) ∗ cred (tallyAt (barCell c) () (nbrs c)) ∗ credR c)

/-- What enters the first step beside the two scratch buffers. -/
def entered (c : Dev nD) : sProp 𝕄 :=
  iprop(atPos ER (barCell c) 0 ∅ 0 ∗ atPos ER (sendCell c) 0 ∅ 0 ∗ atPos ER (recvCell c) 0 ∅ 0 ∗ atPos ER (locCell c) 0 ∅ 0
    ∗ reached ER (sendCell c) 0 ∗ reached ER (recvCell c) 0 ∗ reached ER (locCell c) 0
    ∗ reached ER (barCell (pv c)) 0 ∗ reached ER (barCell (nx c)) 0
    ∗ dutyTok ER (barCell (pv c)) 0 false ∗ dutyTok ER (barCell (nx c)) 0 true ∗ dutyTok ER (recvCell (nx c)) 0 false
    ∗ dutyTok ER (sendCell c) 0 false ∗ dutyTok ER (locCell c) 0 false
    ∗ cred (tallyAt (barCell c) () (nbrs c)) ∗ credR c ∗ srcA m c ∗ srcB m c)

/-- The three own cells opened at their counters, and the array's kept half cut to what the two copies read. -/
theorem opening (c : Dev nD) :
    iprop(start m c ∗ Pipeline.ownSems0 osem c ∗ pt c main_arg0 fullShare.right (xOf m c) ∗ levAts L lv)
      ⊢ iprop(|={Set.univ}=> ∃ K ι, fixed m K ι c ∗ entered m c) := by
  rw [ownSems_eq]
  unfold start ghost fixed invs
  iintro ⟨⟨⟨%K, %ι, ⟨#I1, #I2, #I3, #I4, #I5, #I6, #I7⟩, #Hwm, Hb, Os, Or, Ol, #Hrp, #Hrn, T1, T2, T3, T4, T5⟩, Hc, HR⟩, ⟨Vs, Vr, Vl⟩, Hx, #Hlev⟩
  imod (Rounds.cell_open ER (Rd m) (g := sendCell c) (Set.mem_univ (K (sendCell c)))) $$ [Os Vs] with ⟨As, #Hs⟩
  · isplitr
    · iexact I2
    isplitl [Os] <;> iassumption
  imod (Rounds.cell_open ER (Rd m) (g := recvCell c) (Set.mem_univ (K (recvCell c)))) $$ [Or Vr] with ⟨Ar, #Hr⟩
  · isplitr
    · iexact I3
    isplitl [Or] <;> iassumption
  imod (Rounds.cell_open ER (Rd m) (g := locCell c) (Set.mem_univ (K (locCell c)))) $$ [Ol Vl] with ⟨Al, #Hl⟩
  · isplitr
    · iexact I4
    isplitl [Ol] <;> iassumption
  ihave Hx := (pointsTo_share (PosShare.mem_left_op_right fullShare.right)).1 $$ Hx
  icases Hx with ⟨HA, HB⟩
  ihave HA := (pointsTo_split_subset (ℓ := (c : Thread nD τ).loc main_arg0) (Finset.subset_univ rowsA.view.set)).1 $$ HA
  icases HA with ⟨HA, -⟩
  ihave HB := (pointsTo_split_subset (ℓ := (c : Thread nD τ).loc main_arg0) (Finset.subset_univ rowsB.view.set)).1 $$ HB
  icases HB with ⟨HB, -⟩
  imodintro
  iexists K
  iexists ι
  isplitr
  · isplitr
    · repeat (isplitr; · iassumption)
      iassumption
    isplitr <;> iassumption
  unfold entered
  iframe
  repeat (isplitr; · iassumption)
  iassumption

theorem entered_in (c : Dev nD) :
    iprop((∃ K ι, fixed m K ι c ∗ entered m c) ∗ (∃ f, tailPts (F := F) c f) ∗ ∃ f, haloPts (F := F) c f) ⊢ (dat0 m c).Φ 0 := by
  rw [show (dat0 m c).Φ 0 = iprop(∃ K ι, fixed m K ι c ∗ phase m c 0) from rfl, phase_zero]
  iintro ⟨⟨%K, %ι, #Hf, He⟩, HT, HH⟩
  iexists K
  iexists ι
  isplitr
  · iexact Hf
  unfold entered phase0
  icases He with ⟨H1, H2, H3, H4, H5, H6, H7, H8, H9, H10, H11, H12, H13, H14, H15, H16, H17, H18⟩
  iframe

theorem left_out (c : Dev nD) :
    (dat0 m c).Φ (Fin.last cfg0.N)
      ⊢ iprop(semVal (barCell c) 0 ∗ Pipeline.ownSems0 osem c ∗ (∃ f, tailPts (F := F) c f) ∗ ∃ f, haloPts (F := F) c f) := by
  rw [show (dat0 m c).Φ (Fin.last cfg0.N) = iprop(∃ K ι, fixed m K ι c ∗ phase m c cfg0.N) from rfl,
    phase_C m c cfg0.N (by rw [show cfg0.N = 8 from N_0]; decide), ownSems_eq]
  unfold phaseC
  iintro ⟨%K, %ι, -, Hb, Hs, Hr, Hl, HH, HT⟩
  iframe

/-! ## The region -/

/-- What a device holds when the call returns. -/
def after (c : Dev nD) : sProp 𝕄 :=
  iprop(pt c main_arg0 fullShare.left (m ((c : Thread nD τ).loc main_arg0)) ∗ pt c main_arg1 fullShare (m ((c : Thread nD τ).loc main_arg1))
    ∗ pt c main_v1 fullShare (result m c) ∗ semVal (barCell c) 0)

theorem owed_low (c : Dev nD) (t : Fin (cfg0.N + 1)) (g : GSem nD τ sig) (u : Unit) (h : 0 < owedAt c t.val g u) :
    u ∈ L g ∧ 0 < lv g u := by
  have hr : u ∈ L (recvCell (nx c)) ∧ 0 < lv (recvCell (nx c)) u := ⟨mem_L _ _ _, by rw [lv_recv]; decide⟩
  have hb (d : Dev nD) : u ∈ L (barCell d) ∧ 0 < lv (barCell d) u := ⟨mem_L _ _ _, by rw [lv_bar]; decide⟩
  unfold owedAt at h
  split at h
  · rcases O₀_pos h with rfl | rfl | rfl
    · exact hr
    · exact hb _
    · exact hb _
  · split at h
    · obtain rfl := oRecv_pos h
      exact hr
    · exact absurd h (Nat.lt_irrefl 0)

theorem lv_stage : ∀ (w : Fin cfg0.W) (s : Fin (cfg0.win w).nbuf) (c : Dev nD), lv ((c : Thread nD τ), .dma ((cfg0.win w).sem s)) () = 0 := by
  decide

local notation "ℝ𝕊" => Pipeline.RegionSeg (pcfgs (F := F)) adm (pdats m) () defs₀ 𝒱₀ L lv

def reg0 : ℝ𝕊 0 where
  win := winFacts0.to₀
  block_pos := block_pos0
  stage_whole := stage_whole0
  K := Fin 3
  osem := osem
  ho := own_facts
  hbody c := (body m c).loose
  hwaits c := Pipeline.cellsWaits_intro _ (pdats m) () 0 c fun w s t =>
    MayOwe.of_cut (L := L) (lev := lv) 0 (fun p hp => by rw [Finset.mem_singleton.mp hp]; exact mem_L _ _ _)
      (fun g u hg => (owed_low c t g u hg).1)
      (fun p hp => by rw [Finset.mem_singleton.mp hp]; exact le_of_eq (lv_stage w s c))
      (fun g u hg => (owed_low c t g u hg).2)
  pre c := iprop(start m c ∗ unscopedBufs c (fun b => m ((c : Thread nD τ).loc b)) ∗ ∃ W, owes (c : Thread nD τ) (O₀ c) W)
  post c := iprop(after m c ∗ ∃ W, owes (c : Thread nD τ) (0 : CellTallies nD τ sig Unit) W)
  X c := iprop(∃ K ι, fixed m K ι c ∗ entered m c)
  Y c := semVal (barCell c) 0
  Z _ := iprop(emp)
  hentry c := by
    rw [prefHeld_emp, bufs_eq]
    show _ ⊢ iprop(|={Set.univ}=> ((dat0 m c).arrays ((dat0 m c).arrAt · 0) ∗ _ ∗ (dat0 m c).owesAt () 0 ∗ _ ∗ _))
    rw [arrays_eq]
    iintro ⟨⟨Hst, ⟨H0, H1, H2⟩, HO⟩, Hos, #Hlev⟩
    ihave H0 := (pointsTo_share (PosShare.mem_left_op_right fullShare)).1 $$ H0
    icases H0 with ⟨HL, HR⟩
    imod (opening m c) $$ [Hst Hos HR] with HX
    · iframe
      iexact Hlev
    imodintro
    isplitl [HL H1 H2]
    · isplitl [HL]
      · iexact HL
      isplitl [H1]
      · iexact H1
      iexact H2
    isplitr
    · iempintro
    isplitl [HO]
    · iapply (owesAt_intro m c 0 rfl)
      iexact HO
    isplitl [HX]
    · iexact HX
    iempintro
  hin c := by
    show iprop(_ ∗ _ ∗ Pipeline.scopedRest spec0 c) ⊢ (dat0 m c).Φ 0
    rw [rest_eq]
    iintro ⟨HX, -, HT, HH⟩
    iapply (entered_in m c)
    isplitl [HX]
    · iexact HX
    isplitl [HT]
    · iexact HT
    iexact HH
  hout c := by
    show (dat0 m c).Φ (Fin.last cfg0.N) ⊢ iprop(_ ∗ _ ∗ Pipeline.scopedRest spec0 c)
    rw [rest_eq]
    exact left_out m c
  hexit c := by
    show iprop((dat0 m c).arrays ((dat0 m c).arrAt · cfg0.N) ∗ (dat0 m c).owesAt () (Fin.last cfg0.N) ∗ _ ∗ _) ⊢ _
    rw [arrays_eq, (dat0 m c).arrAt_in 0 rfl, (dat0 m c).arrAt_in 1 rfl]
    unfold after
    iintro ⟨⟨H0, H1, H2⟩, HO, Hb, -⟩
    imodintro
    isplitr [HO]
    · isplitl [H0]
      · iexact H0
      isplitl [H1]
      · iexact H1
      isplitl [H2]
      · iexact H2
      iexact Hb
    iapply (owesAt_elim m c (Fin.last cfg0.N) (owedAt_B c _ (by rw [Fin.val_last, show cfg0.N = 8 from N_0]; decide)))
    iexact HO

end Cert.KernelIdeal.Conv

end
-- ==== Proof.Launch.lean ====
/-
  The launch: what the four devices owe one another in sum, the element the protocol starts from, and how it is dealt out.
-/
module

public import proofs.«01_k».proof.Proof.Region

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg)

/-! ## What is owed to each cell, over all four devices -/

theorem cell_eq_iff (sm : SemLoc sig) (d c : Dev nD) :
    (((c : Thread nD τ), sm) : GSem nD τ sig) = ((d : Thread nD τ), sm) ↔ d = c :=
  ⟨fun h => (congrArg (fun g : GSem nD τ sig => g.1.1) h).symm, fun h => by rw [h]⟩

theorem tally_same (sm : SemLoc sig) (d c : Dev nD) (n : ℕ) :
    (tallyAt ((d : Thread nD τ), sm) () n : CellTallies nD τ sig Unit) ((c : Thread nD τ), sm) () = if d = c then n else 0 := by
  rw [tallyAt_apply]
  exact if_congr ((and_iff_left rfl).trans (cell_eq_iff sm d c)) rfl rfl

theorem owed_bar (d c : Dev nD) :
    O₀ d (barCell c) () = (if hasR d ∧ nx d = c then 1 else 0) + (if hasL d ∧ pv d = c then 1 else 0) := by
  unfold O₀
  rw [Pi.add_apply, Finsupp.add_apply, Pi.add_apply, Finsupp.add_apply]
  have h1 : oRecv d (barCell c) () = 0 := by
    unfold oRecv
    split
    · rw [tallyAt_ne_cell fun h => recv_ne_bar (congrArg Prod.snd h).symm, Finsupp.zero_apply]
    · rfl
  have h2 : oNx d (barCell c) () = if hasR d ∧ nx d = c then 1 else 0 := by
    unfold oNx
    by_cases h : hasR d
    · rw [if_pos h, tally_same]; exact if_congr (and_iff_right h).symm rfl rfl
    · rw [if_neg h, if_neg fun h' => h h'.1]; rfl
  have h3 : oPv d (barCell c) () = if hasL d ∧ pv d = c then 1 else 0 := by
    unfold oPv
    by_cases h : hasL d
    · rw [if_pos h, tally_same]; exact if_congr (and_iff_right h).symm rfl rfl
    · rw [if_neg h, if_neg fun h' => h h'.1]; rfl
  rw [h1, h2, h3, Nat.zero_add]

theorem owed_recv (d c : Dev nD) : O₀ d (recvCell c) () = (if hasR d ∧ nx d = c then 1 else 0) * N := by
  unfold O₀
  rw [Pi.add_apply, Finsupp.add_apply, Pi.add_apply, Finsupp.add_apply]
  have h1 : oRecv d (recvCell c) () = (if hasR d ∧ nx d = c then 1 else 0) * N := by
    unfold oRecv
    by_cases h : hasR d
    · rw [if_pos h, tally_same]
      by_cases hc : nx d = c
      · rw [if_pos hc, if_pos ⟨h, hc⟩, Nat.one_mul]
      · rw [if_neg hc, if_neg fun h' => hc h'.2, Nat.zero_mul]
    · rw [if_neg h, if_neg fun h' => h h'.1, Nat.zero_mul]; rfl
  have h2 : oNx d (recvCell c) () = 0 := by
    unfold oNx
    split
    · rw [tallyAt_ne_cell fun h => recv_ne_bar (congrArg Prod.snd h), Finsupp.zero_apply]
    · rfl
  have h3 : oPv d (recvCell c) () = 0 := by
    unfold oPv
    split
    · rw [tallyAt_ne_cell fun h => recv_ne_bar (congrArg Prod.snd h), Finsupp.zero_apply]
    · rfl
  simp only [h1, h2, h3, Nat.add_zero]

theorem words_in : ∀ c : Dev nD,
    (∑ d : Dev nD, ((if hasR d ∧ nx d = c then 1 else 0) + (if hasL d ∧ pv d = c then 1 else 0))) = nbrs c := by decide
theorem copies_in : ∀ c : Dev nD, (∑ d : Dev nD, (if hasR d ∧ nx d = c then 1 else 0)) = if hasL c then 1 else 0 := by decide

theorem launch_bar (c : Dev nD) :
    tallyOn (barCell c) (launchCredit (Pipeline.owing O₀) 0 (barCell c)) = (tallyAt (barCell c) () (nbrs c) : CellTallies nD τ sig Unit) := by
  unfold tallyAt
  refine congrArg _ (Finsupp.ext fun u => ?_)
  cases u
  rw [Pipeline.launchCredit_owing, Finsupp.single_eq_same, Finset.sum_congr rfl fun d _ => owed_bar d c, words_in]

theorem launch_recv (c : Dev nD) (h : hasL c) :
    tallyOn (recvCell c) (launchCredit (Pipeline.owing O₀) 0 (recvCell c)) = (tallyAt (recvCell c) () N : CellTallies nD τ sig Unit) := by
  unfold tallyAt
  refine congrArg _ (Finsupp.ext fun u => ?_)
  cases u
  rw [Pipeline.launchCredit_owing, Finsupp.single_eq_same, Finset.sum_congr rfl fun d _ => owed_recv d c, ← Finset.sum_mul, copies_in,
    if_pos h, Nat.one_mul]

theorem credits (c : Dev nD) :
    (Pipeline.launchCred O₀ c : sProp 𝕄) ⊢ iprop(cred (tallyAt (barCell c) () (nbrs c)) ∗ credR c) := by
  unfold Pipeline.launchCred
  rw [bigSep_univ_at _ (SemLoc.reg barrier0), launch_bar]
  refine sep_mono_right ?_
  unfold credR
  by_cases h : hasL c
  · rw [if_pos h, ← launch_recv c h]
    exact bigSep_elim (Finset.mem_erase.mpr ⟨recv_ne_bar, Finset.mem_univ _⟩)
  · rw [if_neg h]
    iintro -
    iempintro

/-! ## The cells and the tokens -/

theorem osem_inj : Function.Injective osem := by decide
theorem osem_ne_bar : ∀ k : Fin 3, osem k ≠ .reg barrier0 := by decide

def barEmb : Dev nD ↪ GSem nD τ sig := ⟨fun c => barCell c, fun _ _ h => congrArg (fun g : GSem nD τ sig => g.1.1) h⟩
def ownEmb : Dev nD × Fin 3 ↪ GSem nD τ sig :=
  ⟨fun p => ((p.1 : Thread nD τ), osem p.2), fun _ _ h =>
    Prod.ext (congrArg (fun g : GSem nD τ sig => g.1.1) h) (osem_inj (congrArg Prod.snd h))⟩

/-- The barrier cells, which have their counters at launch, and the three others of each device, which do not yet. -/
abbrev barCells : Finset (GSem nD τ sig) := Finset.univ.map barEmb
abbrev ownCells : Finset (GSem nD τ sig) := Finset.univ.map ownEmb

/-- The five duties on a device's cells. -/
abbrev dutySem : Fin 5 → SemLoc sig :=
  fun | 0 => .reg barrier0 | 1 => .reg barrier0 | 2 => .dma cc0_scratch3.sem | 3 => .dma cc0_scratch2.sem | 4 => .dma cc0_scratch4.sem
abbrev dutyName : Fin 5 → Bool := fun | 1 => true | _ => false
theorem duty_inj : Function.Injective (fun k : Fin 5 => (dutySem k, dutyName k)) := by decide
def allToks : Finset (GSem nD τ sig × ℕ × Bool) :=
  Finset.univ.map ⟨fun p : Dev nD × Fin 5 => (((p.1 : Thread nD τ), dutySem p.2), 0, dutyName p.2), fun _ _ h =>
    Prod.ext (congrArg (fun t : GSem nD τ sig × ℕ × Bool => t.1.1.1) h)
      (duty_inj (Prod.ext (congrArg (fun t : GSem nD τ sig × ℕ × Bool => t.1.2) h)
        (congrArg (fun t : GSem nD τ sig × ℕ × Bool => t.2.2) h)))⟩

theorem disjoint_cells : Disjoint (barCells : Finset (GSem nD τ sig)) ownCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 3) : ((c : Thread nD τ), osem k) ∈ (barCells ∪ ownCells : Finset (GSem nD τ sig)) :=
  Finset.mem_union_right _ (Finset.mem_map_of_mem ownEmb (Finset.mem_univ (c, k)))

/-- The launch element: the staging cells', the talk's, write mode's. -/
def u₀ : UU F :=
  (initOf (Pipeline.cells (Pipeline.pin (pcfgs (F := F)) adm) cellOf_inj) (Pipeline.launchToks (Pipeline.pin (pcfgs (F := F)) adm) cellOf_inj),
    (launchOf barCells ownCells allToks, wm₀ nD τ sig (Elt F)))

/-- A resource kept by device 0, the others holding nothing. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- The talk's and write mode's elements. -/
def seed : sProp 𝕄 := iprop(BI.own (ER (launchOf barCells ownCells allToks)) ∗ ownU (EW F (wm₀ nD τ sig (Elt F))))

theorem u₀_split : (ownU (u₀ (F := F)) : sProp 𝕄) ⊢ iprop(BI.own (EP (initOf (Pipeline.cells (Pipeline.pin (pcfgs (F := F)) adm) cellOf_inj)
    (Pipeline.launchToks (Pipeline.pin (pcfgs (F := F)) adm) cellOf_inj))) ∗ seed) := by
  unfold u₀ seed
  iintro Hu
  ihave H := (ownU_pair _ _) $$ Hu
  icases H with ⟨HP, HX⟩
  isplitl [HP]
  · iexact HP
  ihave H := (own_pair_emb _ _ _) $$ HX
  icases H with ⟨HB, HW⟩
  isplitl [HB]
  · iexact HB
  iapply (show (BI.own (((Emb.inr : Emb _ (UB × WmRA nD τ sig (Elt F))).trans embR) (wm₀ nD τ sig (Elt F))) : sProp 𝕄)
    ⊢ ownU (EW F (wm₀ nD τ sig (Elt F))) from .rfl) $$ HW

/-! ## Dealing -/

/-- What every device may consult. -/
def records (κ : GSem nD τ sig → ℕ) (ι : ℕ) : sProp 𝕄 :=
  iprop((bigSep (barCells ∪ ownCells) fun g => cellInv ER (Rd m) (κ g) g) ∗ (bigSep barCells fun g => reached ER g 0) ∗ wmInv (EW F) ι)

instance records_persistent (κ : GSem nD τ sig → ℕ) (ι : ℕ) : BI.Persistent (records m κ ι) := by unfold records; infer_instance

theorem inv_at (κ : GSem nD τ sig → ℕ) {g : GSem nD τ sig} (hg : g ∈ (barCells ∪ ownCells : Finset (GSem nD τ sig))) :
    (bigSep (barCells ∪ ownCells) fun g => (cellInv ER (Rd m) (κ g) g : sProp 𝕄)) ⊢ cellInv ER (Rd m) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

/-- What device c alone gets: its barrier position, three rights to open, the tokens of the duties IT pays. -/
def dealt (c : Dev nD) : sProp 𝕄 :=
  iprop(atPos ER (barCell c) 0 ∅ 0 ∗ (openTok ER (sendCell c) ∗ openTok ER (recvCell c) ∗ openTok ER (locCell c))
    ∗ dutyTok ER (barCell (pv c)) 0 false ∗ dutyTok ER (barCell (nx c)) 0 true ∗ dutyTok ER (recvCell (nx c)) 0 false
    ∗ dutyTok ER (sendCell c) 0 false ∗ dutyTok ER (locCell c) 0 false)

theorem invs_intro (κ : GSem nD τ sig → ℕ) (c : Dev nD) :
    (bigSep (barCells ∪ ownCells) fun g => (cellInv ER (Rd m) (κ g) g : sProp 𝕄)) ⊢ invs m κ c := by
  unfold invs
  iintro #HI
  isplitr; · iapply (inv_at m κ (bar_mem c)); iexact HI
  isplitr; · iapply (inv_at m κ (own_mem c 0)); iexact HI
  isplitr; · iapply (inv_at m κ (own_mem c 1)); iexact HI
  isplitr; · iapply (inv_at m κ (own_mem c 2)); iexact HI
  isplitr; · iapply (inv_at m κ (bar_mem (pv c))); iexact HI
  isplitr; · iapply (inv_at m κ (bar_mem (nx c))); iexact HI
  iapply (inv_at m κ (own_mem (nx c) 1)); iexact HI

theorem ghost_intro (κ : GSem nD τ sig → ℕ) (ι : ℕ) (c : Dev nD) : iprop(records m κ ι ∗ dealt c) ⊢ ghost m κ ι c := by
  unfold records dealt ghost
  iintro ⟨⟨#HI, #HR, #HW⟩, Hb, ⟨Os, Or, Ol⟩, T1, T2, T3, T4, T5⟩
  isplitr; · iapply (invs_intro m κ c); iexact HI
  isplitr; · iexact HW
  iframe
  isplitr; · iapply (reached_at (F := F) (pv c)); iexact HR
  iapply (reached_at (F := F) (nx c)); iexact HR

theorem toks_eq : bigSep allToks (fun x => (dutyTok ER x.1 x.2.1 x.2.2 : sProp 𝕄))
    = bigSep Finset.univ fun c : Dev nD => iprop(dutyTok ER (barCell c) 0 false ∗ dutyTok ER (barCell c) 0 true
      ∗ dutyTok ER (recvCell c) 0 false ∗ dutyTok ER (sendCell c) 0 false ∗ dutyTok ER (locCell c) 0 false) := by
  unfold allToks
  rw [bigSep_map, bigSep_univ_prod]
  exact bigSep_congr fun c _ => bigSep_univ_eq_bigSepL (I := Fin 5) [0, 1, 2, 3, 4] (by decide) (by decide) _

/-- Each token to the device that pays with it. -/
theorem toks_around :
    bigSep allToks (fun x => (dutyTok ER x.1 x.2.1 x.2.2 : sProp 𝕄))
      = bigSep Finset.univ fun c : Dev nD => iprop(dutyTok ER (barCell (pv c)) 0 false ∗ dutyTok ER (barCell (nx c)) 0 true
        ∗ dutyTok ER (recvCell (nx c)) 0 false ∗ dutyTok ER (sendCell c) 0 false ∗ dutyTok ER (locCell c) 0 false) := by
  rw [toks_eq]
  simp only [bigSep_sep']
  rw [bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring (fun c : Dev nD => (dutyTok ER (recvCell c) 0 false : sProp 𝕄))]
  rfl

theorem opens_eq : bigSep ownCells (fun g => (openTok ER g : sProp 𝕄))
    = bigSep Finset.univ fun c : Dev nD => iprop(openTok ER (sendCell c) ∗ openTok ER (recvCell c) ∗ openTok ER (locCell c)) := by
  rw [bigSep_map, bigSep_univ_prod]
  exact bigSep_congr fun c _ => bigSep_univ_eq_bigSepL (I := Fin 3) [0, 1, 2] (by decide) (by decide) _

theorem bars_eq (Φ : GSem nD τ sig → sProp 𝕄) : bigSep barCells Φ = bigSep Finset.univ fun c : Dev nD => Φ (barCell c) :=
  bigSep_map barEmb

/-! ## The global step at launch -/

/-- What a device's thread starts with. -/
abbrev T₀ (c : Dev nD) : sProp 𝕄 :=
  iprop(start m c ∗ unscopedBufs c (fun b => m ((c : Thread nD τ).loc b)) ∗ ∃ W, owes (c : Thread nD τ) (O₀ c) W)

/-- Of it what is not the protocol's. -/
def plain (c : Dev nD) : sProp 𝕄 :=
  iprop((cred (tallyAt (barCell c) () (nbrs c)) ∗ credR c) ∗ unscopedBufs c (fun b => m ((c : Thread nD τ).loc b))
    ∗ owes (c : Thread nD τ) (O₀ c) ∅)

theorem T₀_intro (κ : GSem nD τ sig → ℕ) (ι : ℕ) (c : Dev nD) : iprop(records m κ ι ∗ (dealt c ∗ plain m c)) ⊢ T₀ m c := by
  unfold plain T₀ start
  iintro ⟨#HR, Hd, ⟨Hc, Hr⟩, Hb, HO⟩
  isplitl [Hd Hc Hr]
  · isplitl [Hd]
    · iexists κ
      iexists ι
      iapply (ghost_intro m κ ι c)
      isplitr; · iexact HR
      iexact Hd
    isplitl [Hc] <;> iassumption
  isplitl [Hb]
  · iexact Hb
  iexists ∅
  iexact HO

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

abbrev given (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ parked seed c)

theorem given_split (c : Dev nD) : given m ρ c ⊢ iprop(plain m c ∗ semVal (barCell c) 0 ∗ parked seed c) := by
  unfold given plain
  rw [unscopedSems_eq]
  iintro ⟨Hb, Hv, HO, Hc, -, HG⟩
  ihave Hc := (credits (F := F) c) $$ Hc
  iframe

theorem init : iprop((bigSep Finset.univ (given m ρ)) ∗ levAts L lv) ⊢ (|={Set.univ}=> bigSep Finset.univ (T₀ m) : sProp 𝕄) := by
  iintro ⟨H, -⟩
  ihave H := (show bigSep Finset.univ (given m ρ) ⊢ bigSep Finset.univ fun c : Dev nD => iprop(plain m c ∗ semVal (barCell c) 0 ∗ parked seed c)
    from bigSep_mono fun c _ => given_split m ρ c) $$ H
  ihave H := (Entails.of_eq (bigSep_sep' _ _ _)) $$ H
  icases H with ⟨HP, H⟩
  ihave H := (Entails.of_eq (bigSep_sep' _ _ _)) $$ H
  icases H with ⟨Hv, HG⟩
  ihave HG := (Entails.of_eq (bigSep_parked (F := F) seed)) $$ HG
  unfold seed
  icases HG with ⟨Hu, Hw⟩
  imod (wmInv_alloc (emb := EW F) ⟨m, fun _ => 0, ρ⟩ ∅) $$ Hw with ⟨%ι, -, #HW⟩
  ihave Hv := (Entails.of_eq (bars_eq (F := F) (fun g => semVal g 0)).symm) $$ Hv
  imod (Rounds.fund_launch ER (Rd m) disjoint_cells (fun g _ h => h) allToks) $$ [Hv Hu] with ⟨%κ, -, #HI, #HR, Hat, Hopen, Htok⟩
  · isplitl [Hv] <;> iassumption
  imodintro
  iapply (bigSep_with_persistent (R := records m κ ι) (Φ := fun c => iprop(dealt c ∗ plain m c)) fun c _ => T₀_intro m κ ι c)
  isplitr
  · unfold records
    isplitr; · iexact HI
    isplitr <;> iassumption
  iapply (Entails.of_eq (bigSep_sep' _ _ _).symm)
  isplitr [HP]
  · unfold dealt
    iapply (Entails.of_eq (bigSep_sep' _ _ _).symm)
    isplitl [Hat]
    · iapply (Entails.of_eq (bars_eq (F := F) (fun g => atPos ER g 0 ∅ 0))) $$ Hat
    iapply (Entails.of_eq (bigSep_sep' _ _ _).symm)
    isplitl [Hopen]
    · iapply (Entails.of_eq (opens_eq (F := F))) $$ Hopen
    iapply (Entails.of_eq (toks_around (F := F))) $$ Htok
  · iexact HP

end Cert.KernelIdeal.Conv

end
-- ==== Proof.Run.lean ====
/-
  The run of the whole program over any floats: from any memory with zero counters it ends, the two inputs unchanged,
  every counter at zero, and the result array at what the eight steps flushed.
-/
module

public import proofs.«01_k».proof.Proof.Launch

@[expose] public section

noncomputable section

namespace Cert.KernelIdeal.Conv

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg)

abbrev segs : List (Pipeline.Seg (pcfgs (F := F)) adm (pdats m) () defs₀ 𝒱₀ L lv) := [.region (reg0 m)]

/-- What a device holds at the end. -/
abbrev Tₙ (c : Dev nD) : sProp 𝕄 := after m c

set_option backward.isDefEq.respectTransparency.types false in
theorem run_main : θ_run defs (onTc (τ := τ) (main (F := F))) ⟨m, fun _ => 0, ρ⟩
    (fun r => (∀ c : Dev nD, r.2.mem ((c : Thread nD τ).loc main_v1) = result m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (reg0 m) c])
    (by simp only [segs, Pipeline.Seg.pipes_region, Pipeline.Seg.pipes_nil]; decide)
    (O₀ := O₀) (hL := L_of_ne) (G := parked seed) (u₀ := u₀)
    (hu₀ := by
      rw [bigSep_parked]
      iintro Hu
      imodintro
      iapply (u₀_split (F := F)) $$ Hu)
    (T₀ := T₀ m) (Tₙ := Tₙ m)
    (hch := ⟨fun c => .rfl, fun c => .rfl⟩)
    (hinit := init m ρ)
    (QY := fun c s => (s.mem ((c : Thread nD τ).loc main_v1) = result m c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      dsimp only [Tₙ]
      unfold after
      iintro ⟨⟨H0, H1, H2, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h2, Buf.eq_of_forall_mem_univ h0, Buf.eq_of_forall_mem_univ h1⟩, by simpa using hb⟩
      iexact HSI)
    (hQ := fun s h hs => ⟨fun c => (h c).1, sem_eq_zero hs fun c sm hsm => by
        obtain rfl := (show ∀ sm : SemLoc sig, sm.isScoped .tc = false → sm = .reg barrier0 from by decide) sm hsm
        exact (h c).2⟩)

end Cert.KernelIdeal.Conv

end
-- ==== Proof.Same.lean ====
/-
  The kernel as printed, and as printed for the extended reals, are one program: no operation was rewritten.
-/
module

public import proofs.«01_k».proof.Defs
public import proofs.«01_k».proof.Proof.Gen.Kernel
public import proofs.«01_k».proof.Proof.Gen.KernelIdeal

@[expose] public section

namespace Cert.Proof

open Idealize.ShloMosaic Idealize.SL.Sem

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq

end Cert.Proof

end
-- ==== Proof.Spec.lean ====
/-
  The mathematics of the problem over the extended reals, for a sequence of any length: the sequence with three rows put
  in front of it, the four-tap sum down it, and x / (1 + exp (-x)).
-/
module

public import Idealize.ShloMosaic.Lib.ValueIdx
public import Idealize.ShloMosaic.Lib.IdealHost
public import Idealize.ShloMosaic.Lib.Pipeline.Value

@[expose] public section

noncomputable section

namespace Cert.Spec

open Idealize.ShloMosaic Idealize.ShloMosaic.ValueIdx

/-- Two batches of `n` rows of 1024 channels; the taps. -/
abbrev Seq (n : ℕ) : Shape := ⟨3, ![2, n, 1024]⟩
abbrev Taps : Shape := ⟨2, ![4, 1024]⟩

variable {n : ℕ}

/-- Row `u` of the sequence `x` behind the three rows `h`. -/
def pad (h : (Seq 3).Idx → EReal) (x : (Seq n).Idx → EReal) (b : Fin 2) (u : Fin (n + 3)) (l : Fin 1024) : EReal :=
  if hu : u.val < 3 then h (ix3 b ⟨u.val, hu⟩ l) else x (ix3 b ⟨u.val - 3, by omega⟩ l)

theorem pad_lt (h : (Seq 3).Idx → EReal) (x : (Seq n).Idx → EReal) (b : Fin 2) (u : Fin (n + 3)) (l : Fin 1024)
    (v : Fin 3) (hv : v.val = u.val) : pad h x b u l = h (ix3 b v l) := by
  have hu : u.val < 3 := hv ▸ v.isLt
  rw [pad, dif_pos hu]
  exact congrArg (fun v => h (ix3 b v l)) (Fin.ext hv.symm)

theorem pad_ge (h : (Seq 3).Idx → EReal) (x : (Seq n).Idx → EReal) (b : Fin 2) (u : Fin (n + 3)) (l : Fin 1024)
    (v : Fin n) (hv : v.val + 3 = u.val) : pad h x b u l = x (ix3 b v l) := by
  have hu : ¬ u.val < 3 := by omega
  rw [pad, dif_neg hu]
  exact congrArg (fun v => x (ix3 b v l)) (Fin.ext (by dsimp only; omega))

/-- It is the two put one after the other. -/
theorem cat_apply (h : (Seq 3).Idx → EReal) (x : (Seq n).Idx → EReal) (hc : Shape.Concatenates [Seq 3, Seq n] (Seq (n + 3)) 1)
    (b : Fin 2) (u : Fin (n + 3)) (l : Fin 1024) :
    concatenate (Seq (n + 3)) 1 [⟨Seq 3, h⟩, ⟨Seq n, x⟩] hc (ix3 b u l) = pad h x b u l := by
  by_cases hu : u.val < 3
  · refine Eq.trans ?_ (pad_lt h x b u l ⟨u.val, hu⟩ rfl).symm
    refine concatenate_pair_apply_left _ _ _ hc (ix3 b u l) rfl (ix3 b ⟨u.val, hu⟩ l) fun a => ?_
    match a with
    | ⟨0, _⟩ => rfl
    | ⟨1, _⟩ => rfl
    | ⟨2, _⟩ => rfl
  · have hv : u.val - 3 + 3 = u.val := by omega
    refine Eq.trans ?_ (pad_ge h x b u l ⟨u.val - 3, by omega⟩ hv).symm
    refine concatenate_pair_apply_right _ _ _ hc (ix3 b u l) rfl rfl (ix3 b ⟨u.val - 3, by omega⟩ l) (fun a ha => ?_) hv
    match a with
    | ⟨0, _⟩ => rfl
    | ⟨1, _⟩ => exact absurd rfl ha
    | ⟨2, _⟩ => rfl

/-- x / (1 + exp (-x)). -/
def silu (a : EReal) : EReal := Ideal.div a (1 + Ideal.exp (-a))

/-- Four rows weighed by the four taps, from the oldest. -/
def four (e k : Fin 4 → EReal) : EReal := e 0 * k 0 + e 1 * k 1 + e 2 * k 2 + e 3 * k 3

/-- The result: at each row the weighed sum of it and the three before it, and `silu` of that. -/
def out (h : (Seq 3).Idx → EReal) (x : (Seq n).Idx → EReal) (kk : Taps.Idx → EReal) (b : Fin 2) (s : Fin n) (l : Fin 1024) : EReal :=
  silu (four (fun r => pad h x b ⟨s.val + r.val, by omega⟩ l) (fun r => kk (ix2 r l)))

/-- It is the same from two sequences whose four rows there are the same. -/
theorem out_eq {n' : ℕ} {h h' : (Seq 3).Idx → EReal} {x : (Seq n).Idx → EReal} {x' : (Seq n').Idx → EReal} {kk : Taps.Idx → EReal}
    {b : Fin 2} {s : Fin n} {s' : Fin n'} {l : Fin 1024}
    (e : ∀ (u : Fin (n + 3)) (u' : Fin (n' + 3)), u'.val + s.val = u.val + s'.val → s.val ≤ u.val → pad h x b u l = pad h' x' b u' l) :
    out h x kk b s l = out h' x' kk b s' l := by
  unfold out
  exact congrArg silu (congrArg (four · _) (funext fun r => e _ _ (by dsimp only; omega) (by dsimp only; omega)))

/-- With the newest row weighed first, and the logistic function for the quotient. -/
theorem silu_logistic (a : EReal) : a * Ideal.logistic a = silu a := by
  have h : (1 : EReal) + Ideal.exp (-a) ≠ 0 := by
    have h0 : (0 : EReal) ≤ Ideal.exp (-a) := by
      induction (-a) using EReal.rec with
      | bot => exact le_refl (0 : EReal)
      | coe r => exact EReal.coe_nonneg.2 (Real.exp_pos r).le
      | top => exact le_top (a := (0 : EReal))
    exact (lt_of_lt_of_le zero_lt_one (le_add_of_nonneg_right h0)).ne'
  unfold silu Ideal.logistic Ideal.div
  rw [if_neg h, if_neg h, one_mul]

theorem four_newest (e k : Fin 4 → EReal) : e 3 * k 3 + e 0 * k 0 + e 1 * k 1 + e 2 * k 2 = four e k := by
  unfold four
  ac_rfl

/-- One tap cut out of the four: the tap of the channel. -/
theorem row_apply {α : Type} (r : ℕ) (hr : r < 4) (v : Taps.Idx → α) (hs : Taps.Slices ![r, 0] ⟨2, ![1, 1024]⟩)
    (hc : (⟨2, ![1, 1024]⟩ : Shape).ShapeCasts ⟨1, ![1024]⟩) (l : Fin 1024) :
    shapeCast ⟨1, ![1024]⟩ (extractStridedSlice ⟨2, ![1, 1024]⟩ ![r, 0] v hs) hc (ix1 l) = v (ix2 ⟨r, hr⟩ l) := by
  refine (shapeCast_apply _ _ (ix1 l) (ix2 (n0 := 1) 0 l) ?_).trans (extractStridedSlice_apply _ _ _ _ _ fun a => ?_)
  · rw [Shape.rowMajor_val_one, Shape.rowMajor_val_two]
    show 0 * 1024 + l.val = l.val
    omega
  · match a with
    | ⟨0, _⟩ => rfl
    | ⟨1, _⟩ => exact (Nat.zero_add _).symm

end Cert.Spec

end
-- ==== Proof.Block.lean ====
/-
  What one step stores, over the extended reals, at a row: the weighed sum of that row and the three before it, and
  x / (1 + exp (-x)) of it, the three rows before the block being the halo at the last step and the tail before it.
-/
module

public import proofs.«01_k».proof.Proof.Ops
public import proofs.«01_k».proof.Proof.Spec

@[expose] public section

noncomputable section

namespace Cert.KernelIdeal.Conv

open Cert.KernelIdeal Cert.KernelIdeal.Gen
open Idealize.ShloMosaic Idealize.ShloMosaic.TcCoe
open Idealize.ShloMosaic.ValueIdx Cert.Spec

/-- One tap, spread over a block: the tap of the channel. -/
theorem tap_apply (r : ℕ) (hr : r < 4) (v : FVec Ideal S4x1024 .bf16) (hs : S4x1024.Slices ![r, 0] S1x1024) (i : S2x512x1024.Idx) :
    broadcastTo S2x512x1024 (shapeCast S1x1x1024 (shapeCast S1024 (extractStridedSlice S1x1024 ![r, 0] v hs)
      shapeCasts_S1x1024_S1024) shapeCasts_S1024_S1x1x1024) broadcasts_S1x1x1024_S2x512x1024 i = v (ix2 ⟨r, hr⟩ (i 2)) := by
  refine (broadcastTo_apply _ _ i (ix3 (n0 := 1) (n1 := 1) (n2 := 1024) 0 0 (i 2)) fun a => ?_).trans ?_
  · match a with
    | ⟨0, _⟩ => rfl
    | ⟨1, _⟩ => rfl
    | ⟨2, _⟩ => rfl
  refine (shapeCast_apply _ _ _ (ix1 (i 2)) ?_).trans (row_apply r hr v hs _ (i 2))
  refine (Shape.rowMajor_val_one _).trans ((?_ : _ = _).trans (Shape.rowMajor_val_three _).symm)
  show (i 2).val = (0 * 1 + 0) * 1024 + (i 2).val
  omega

/-- The three rows before the block: the halo's at the last step, else the tail's. -/
abbrev three (t : Fin grid0.N) (halo tail : Vec Ideal S2x3x1024 .f32) : Vec Ideal S2x3x1024 .f32 := if t.val = 7 then halo else tail

/-- The block behind its three rows. -/
theorem pay6_apply (t : Fin grid0.N) (halo tail : Vec Ideal S2x3x1024 .f32) (X : Vec Ideal S2x512x1024 .f32) (i : S2x515x1024.Idx) :
    k0_pay6 (F := Ideal) (grid0.coords t) halo tail X i = pad (n := 512) (three t halo tail) X (i 0) (i 1) (i 2) := by
  have hsel : Scalar.select (Scalar.cmpi .eq (BitVec.ofNat 32 (grid0.coords t 0).val) 7#32) halo tail = three t halo tail := by
    unfold Scalar.select three
    exact if_congr (eq_seven_iff t) rfl rfl
  unfold k0_pay6 k0_pay5 k0_pay4
  dsimp only
  rw [hsel, shapeCast_self]
  exact (congrArg _ (eq_ix3 i)).trans (cat_apply (n := 512) _ X _ (i 0) (i 1) (i 2))

/-- The rows a tap reads: those of the block behind its three, from the tap's own on. -/
theorem rows_apply (r : ℕ) (hr : r < 4) (v : FVec Ideal S2x515x1024 .bf16) (hs : S2x515x1024.Slices ![0, r, 0] S2x512x1024)
    (i : S2x512x1024.Idx) :
    extractStridedSlice S2x512x1024 ![0, r, 0] v hs i
      = v (ix3 (n1 := 515) (i 0) ⟨(i 1).val + r, by have : (i 1).val < 512 := (i 1).isLt; omega⟩ (i 2)) :=
  extractStridedSlice_apply _ _ _ _ _ fun a => by
    match a with
    | ⟨0, _⟩ => exact (Nat.zero_add _).symm
    | ⟨1, _⟩ => exact Nat.add_comm _ _
    | ⟨2, _⟩ => exact (Nat.zero_add _).symm

theorem blockOut_apply (t : Fin grid0.N) (halo tail : Vec Ideal S2x3x1024 .f32) (X : Vec Ideal S2x512x1024 .f32)
    (kk : Vec Ideal S4x1024 .f32) (i : S2x512x1024.Idx) :
    blockOut (F := Ideal) (grid0.coords t) halo tail X kk i = out (n := 512) (three t halo tail) X kk (i 0) (i 1) (i 2) := by
  have hk : k0_pay7 (F := Ideal) kk = kk := by
    unfold k0_pay7
    rw [shapeCast_self]
    rfl
  have h3 : X i = pad (n := 512) (three t halo tail) X (i 0) ⟨(i 1).val + 3, by have : (i 1).val < 512 := (i 1).isLt; omega⟩ (i 2) :=
    (congrArg X (eq_ix3 i)).trans (pad_ge _ _ _ _ _ _ rfl).symm
  have hrow : ∀ r (hr : r < 4) (hs : S2x515x1024.Slices ![0, r, 0] S2x512x1024),
      extractStridedSlice S2x512x1024 ![0, r, 0] (k0_pay6 (F := Ideal) (grid0.coords t) halo tail X) hs i
        = pad (n := 512) (three t halo tail) X (i 0) ⟨(i 1).val + r, by have : (i 1).val < 512 := (i 1).isLt; omega⟩ (i 2) :=
    fun r hr hs => (rows_apply r hr _ hs i).trans (pay6_apply t halo tail X _)
  have hend : ∀ v : FVec Ideal S2x512x1024 .bf16, mulf v (logistic v) i = v i * Ideal.logistic (v i) := fun _ => rfl
  have h5 : k0_pay5 (F := Ideal) X = X := by
    unfold k0_pay5 k0_pay4
    rw [shapeCast_self]
    rfl
  unfold blockOut k0_pay1 k0_pay8 k0_pay9
  rw [hk, h5]
  refine (hend _).trans (Eq.trans (congrArg (fun a => a * Ideal.logistic a) ?_) (silu_logistic _))
  dsimp only
  simp only [mulf_apply, addf_apply]
  refine Eq.trans ?_ (four_newest _ _)
  refine congrArg₂ (· + ·) (congrArg₂ (· + ·) (congrArg₂ (· + ·) (congrArg₂ (· * ·) h3 (tap_apply 3 (by decide) _ _ i)) ?_) ?_) ?_
  · exact congrArg₂ (· * ·) (hrow 0 (by decide) _) (tap_apply 0 (by decide) _ _ i)
  · exact congrArg₂ (· * ·) (hrow 1 (by decide) _) (tap_apply 1 (by decide) _ _ i)
  · exact congrArg₂ (· * ·) (hrow 2 (by decide) _) (tap_apply 2 (by decide) _ _ i)

end Cert.KernelIdeal.Conv

end
-- ==== Proof.Final.lean ====
/-
  What a device's result array holds after the last step: at every row, the problem's function of the device's rows behind
  its halo. Step t works on block t + 1 around eight, so the three rows before its block are the block before's last, which
  the step before kept, but at block 0, which comes last and has the halo there.
-/
module

public import proofs.«01_k».proof.Proof.Region
public import proofs.«01_k».proof.Proof.Block
public import Idealize.ShloMosaic.Lib.Pipeline.ValueKit

@[expose] public section

noncomputable section

namespace Cert.KernelIdeal.Conv

open Cert.KernelIdeal Cert.KernelIdeal.Gen
open Idealize.ShloMosaic hiding ix1 ix2 ix3
open Idealize.ShloMosaic.TcCoe
open Idealize.ShloMosaic.ValueIdx Cert.Spec
open Idealize.ShloMosaic.Pipeline (Dat)

variable (m : (ℓ : Loc nD τ sig) → Buf (Elt Ideal) ℓ)

/-- The block a step works on. -/
def blockAt (n : ℕ) : ℕ := (n + 1) % 8

theorem blockAt_lt (n : ℕ) : blockAt n < 8 := Nat.mod_lt _ (by decide)

theorem index_0 : ∀ t : Fin cfg0.N, win0_0.index t = ![0, blockAt t.val, 0] :=
  (by decide +kernel : ∀ t : Fin grid0.N, win0_0.index t = ![0, blockAt t.val, 0])

theorem index_2 : ∀ t : Fin cfg0.N, win0_2.index t = ![0, blockAt t.val, 0] :=
  (by decide +kernel : ∀ t : Fin grid0.N, win0_2.index t = ![0, blockAt t.val, 0])

theorem index_1 : ∀ t : Fin cfg0.N, win0_1.index t = ![0, 0] :=
  (by decide +kernel : ∀ t : Fin grid0.N, win0_1.index t = ![0, 0])

/-- Row `u` of the block at step `t` is row 512 times the block's number and `u` of the device's. -/
theorem iblk_0 (c : Dev nD) (t : Fin cfg0.N) (b : Fin 2) (u : Fin 512) (l : Fin 1024) (v : Fin 4096)
    (hv : v.val = blockAt t.val * 512 + u.val) : iblk m c 0 t (ix3 b u l) = xOf m c (ix3 b v l) := by
  show xOf m c (((cfg0.win 0).blk t).view.emb (ix3 b u l)) = _
  refine congrArg (xOf m c) (funext fun a => Fin.ext ?_)
  match a with
  | ⟨0, _⟩ => blk_simp [index_0]
  | ⟨1, _⟩ => blk_simp [index_0]; exact hv.symm
  | ⟨2, _⟩ => blk_simp [index_0]

theorem iblk_1 (c : Dev nD) (t : Fin cfg0.N) : iblk m c 1 t = taps m c := by
  funext i
  show taps m c (((cfg0.win 1).blk t).view.emb i) = _
  refine congrArg (taps m c) (funext fun a => Fin.ext ?_)
  match a with
  | ⟨0, _⟩ => blk_simp [index_1]
  | ⟨1, _⟩ => blk_simp [index_1]

/-- The rows a device's halo and tail are read from. -/
theorem rowsA_apply (c : Dev nD) (b : Fin 2) (u : Fin 3) (l : Fin 1024) (v : Fin 4096) (hv : v.val = 509 + u.val) :
    rowsA.view.read (Elt Ideal) (xOf m c) (ix3 b u l) = xOf m c (ix3 b v l) := by
  show xOf m c (rowsA.view.emb (ix3 b u l)) = _
  refine congrArg (xOf m c) (funext fun a => Fin.ext ?_)
  match a with
  | ⟨0, _⟩ => exact (Nat.zero_add _).trans (Nat.one_mul _)
  | ⟨1, _⟩ => exact (congrArg (509 + ·) (Nat.one_mul _)).trans hv.symm
  | ⟨2, _⟩ => exact (Nat.zero_add _).trans (Nat.one_mul _)

theorem landed_apply (c : Dev nD) (b : Fin 2) (u : Fin 3) (l : Fin 1024) (v : Fin 4096) (hv : v.val = 4093 + u.val) :
    landed m c (ix3 b u l) = xOf m (pv c) (ix3 b v l) := by
  show xOf m (pv c) (rowsB.view.emb (ix3 b u l)) = _
  refine congrArg (xOf m (pv c)) (funext fun a => Fin.ext ?_)
  match a with
  | ⟨0, _⟩ => exact (Nat.zero_add _).trans (Nat.one_mul _)
  | ⟨1, _⟩ => exact (congrArg (4093 + ·) (Nat.one_mul _)).trans hv.symm
  | ⟨2, _⟩ => exact (Nat.zero_add _).trans (Nat.one_mul _)

/-- The last three rows of a block, which a step keeps for the next. -/
theorem kept_apply (X : Vec Ideal S2x512x1024 .f32) (b : Fin 2) (u : Fin 3) (l : Fin 1024) (w : Fin 512) (hw : w.val = 509 + u.val) :
    k0_pay2 (F := Ideal) (k0_pay4 X) (ix3 b u l) = X (ix3 b w l) := by
  unfold k0_pay2 k0_pay4
  rw [shapeCast_self, shapeCast_self]
  refine extractStridedSlice_apply _ _ _ _ _ fun a => ?_
  match a with
  | ⟨0, _⟩ => exact (Nat.zero_add _).symm
  | ⟨1, _⟩ => exact hw
  | ⟨2, _⟩ => exact (Nat.zero_add _).symm

/-- Before the last step, the tail holds the three rows before the step's block. -/
theorem tailAt_apply (c : Dev nD) (t : Fin cfg0.N) (ht : t.val ≠ 7) (b : Fin 2) (u : Fin 3) (l : Fin 1024) (v : Fin 4096)
    (hv : v.val + 3 = blockAt t.val * 512 + u.val) : tailAt m c t.val (ix3 b u l) = xOf m c (ix3 b v l) := by
  have h8 : t.val < 8 := lt_of_lt_of_eq t.isLt N_0
  have hb : blockAt t.val = t.val + 1 := Nat.mod_eq_of_lt (by omega)
  unfold tailAt
  by_cases h0 : t.val = 0
  · rw [if_pos h0]
    exact rowsA_apply m c b u l v (by omega)
  · have h7 : t.val - 1 < 8 := by omega
    have hb' : blockAt (t.val - 1) = t.val := (congrArg (· % 8) (by omega : t.val - 1 + 1 = t.val)).trans (Nat.mod_eq_of_lt h8)
    rw [if_neg h0]
    refine (kept_apply _ b u l ⟨509 + u.val, by omega⟩ rfl).trans ?_
    refine (congrFun (xb_val m c ⟨t.val - 1, lt_of_lt_of_eq h7 N_0.symm⟩) _).trans ?_
    refine iblk_0 m c _ b _ l v ?_
    show v.val = blockAt (t.val - 1) * 512 + (509 + u.val)
    omega

/-- A step's block behind its three rows is the device's rows behind its halo, from the block's first. -/
theorem pad_block (c : Dev nD) (t : Fin cfg0.N) (b : Fin 2) (u : Fin (512 + 3)) (l : Fin 1024) (u' : Fin (4096 + 3))
    (hu' : u'.val = blockAt t.val * 512 + u.val) :
    pad (n := 512) (three t (haloRows m c) (tailAt m c t.val)) (xb m c t.val) b u l = pad (n := 4096) (haloRows m c) (xOf m c) b u' l := by
  have h8 : t.val < 8 := lt_of_lt_of_eq t.isLt N_0
  by_cases hu : u.val < 3
  · refine (pad_lt _ _ b u l ⟨u.val, hu⟩ rfl).trans ?_
    by_cases ht : t.val = 7
    · have hb : blockAt t.val = 0 := by rw [ht]; rfl
      rw [three, if_pos ht]
      exact (pad_lt _ _ b u' l ⟨u.val, hu⟩ (by dsimp only; omega)).symm
    · have hb : blockAt t.val = t.val + 1 := Nat.mod_eq_of_lt (by omega)
      have hv : u'.val - 3 + 3 = u'.val := by omega
      rw [three, if_neg ht]
      refine (tailAt_apply m c t ht b ⟨u.val, hu⟩ l ⟨u'.val - 3, by omega⟩ ?_).trans (pad_ge _ _ b u' l _ hv).symm
      exact hv.trans hu'
  · refine (pad_ge _ _ b u l ⟨u.val - 3, by omega⟩ (by dsimp only; omega)).trans ?_
    rw [xb_val]
    refine (iblk_0 m c t b _ l ⟨u'.val - 3, by omega⟩ ?_).trans (pad_ge _ _ b u' l _ (by dsimp only; omega)).symm
    dsimp only
    omega

/-- The result array: the problem's function of the device's rows behind its halo. -/
abbrev here (c : Dev nD) : Buf (Elt Ideal) ((c : Thread nD τ).loc main_v1) := fun i =>
  out (n := 4096) (haloRows m c) (xOf m c) (taps m c) (i 0) (i 1) (i 2)

theorem outAt_apply (c : Dev nD) (t : Fin cfg0.N) (y : S2x512x1024.Idx) (s : Fin 4096) (hs : s.val = blockAt t.val * 512 + (y 1).val) :
    outAt m c t y = out (n := 4096) (haloRows m c) (xOf m c) (taps m c) (y 0) s (y 2) := by
  unfold outAt
  rw [iblk_1]
  refine (blockOut_apply t _ _ _ _ y).trans (out_eq fun u u' hu hle => pad_block m c t _ u _ u' ?_)
  have hy : (y 1).val < 512 := (y 1).isLt
  change u'.val + (y 1).val = u.val + s.val at hu
  omega

theorem result_eq (c : Dev nD) : result m c = here m c := by
  refine (dat0 m c).arrAt_eq_of_covers 2 _ (by decide +kernel) fun t hf y => ?_
  have h0 : ((cfg0.win 2).blk t).view.emb y 0 = y 0 := Fin.ext (by blk_simp [index_2])
  have h1 : (((cfg0.win 2).blk t).view.emb y 1).val = blockAt t.val * 512 + (y 1).val := by blk_simp [index_2]
  have h2 : ((cfg0.win 2).blk t).view.emb y 2 = y 2 := Fin.ext (by blk_simp [index_2])
  refine (outAt_apply m c t y (((cfg0.win 2).blk t).view.emb y 1) h1).trans ?_
  exact congrArg₂ (fun b l => out (n := 4096) (haloRows m c) (xOf m c) (taps m c) b (((cfg0.win 2).blk t).view.emb y 1) l) h0.symm h2.symm

end Cert.KernelIdeal.Conv

end
-- ==== Proof.Reference.lean ====
/-
  What the reference computes, over the extended reals: the problem's function of the whole sequence behind three rows of
  zeros.
-/
module

public import proofs.«01_k».proof.Proof.Gen.ReferenceIdeal.Run
public import proofs.«01_k».proof.Proof.Spec

@[expose] public section

noncomputable section

namespace Cert.ReferenceIdeal.Conv

open Cert.ReferenceIdeal Cert.ReferenceIdeal.Gen
open Idealize.ShloMosaic
open Idealize.ShloMosaic.TcCoe
open Idealize.ShloMosaic.ValueIdx Cert.Spec

variable (m : (ℓ : Loc nD τ sig) → Buf (Elt Ideal) ℓ)

/-- The sequence behind three rows of zeros, as the reference writes it. -/
abbrev padded (X : FVec Ideal S2x16384x1024 .f32) : FVec Ideal S2x16387x1024 .f32 :=
  concatenate S2x16387x1024 1 [⟨S2x3x1024, broadcastInDim S2x3x1024 ![] bcast_S_S2x3x1024 (constant S_ .f32 0x00000000#32)⟩,
    ⟨S2x16384x1024, X⟩] concatenates_S2x3x1024_S2x16384x1024_S2x16387x1024_d1

theorem padded_apply (X : FVec Ideal S2x16384x1024 .f32) (i : S2x16387x1024.Idx) :
    padded X i = pad (n := 16384) (fun _ => 0) X (i 0) (i 1) (i 2) := by
  have hz : (broadcastInDim S2x3x1024 ![] bcast_S_S2x3x1024 (constant (F := Ideal) S_ .f32 0x00000000#32)) = fun _ => (0 : EReal) :=
    funext fun _ => Ideal.ofBits_zero_f32
  unfold padded
  rw [hz]
  exact (congrArg _ (eq_ix3 i)).trans (cat_apply (n := 16384) _ X _ (i 0) (i 1) (i 2))

/-- One tap, spread over the sequence: the tap of the channel. -/
theorem tap_apply (r : ℕ) (hr : r < 4) (v : FVec Ideal S4x1024 .f32) (hs : S4x1024.Slices ![r, 0] S1x1024) (i : S2x16384x1024.Idx) :
    broadcastInDim S2x16384x1024 ![0, 1, 2] bcast_S1x1x1024_S2x16384x1024_0_1_2 (broadcastInDim S1x1x1024 ![2] bcast_S1024_S1x1x1024_2
      (shapeCast S1024 (extractStridedSlice S1x1024 ![r, 0] v hs) shapeCasts_S1x1024_S1024)) i = v (ix2 ⟨r, hr⟩ (i 2)) := by
  refine (broadcastInDim_apply _ _ _ i (ix3 (n0 := 1) (n1 := 1) (n2 := 1024) 0 0 (i 2)) fun a => ?_).trans ?_
  · match a with
    | ⟨0, _⟩ => rfl
    | ⟨1, _⟩ => rfl
    | ⟨2, _⟩ => rfl
  refine (broadcastInDim_apply _ _ _ _ (ix1 (i 2)) fun a => ?_).trans (row_apply r hr v hs _ (i 2))
  match a with
  | ⟨0, _⟩ => rfl

/-- The rows a tap reads: those of the sequence behind its three, from the tap's own on. -/
theorem rows_apply (r : ℕ) (hr : r < 4) (X : FVec Ideal S2x16384x1024 .f32) (hs : S2x16387x1024.Slices ![0, r, 0] S2x16384x1024)
    (i : S2x16384x1024.Idx) :
    extractStridedSlice S2x16384x1024 ![0, r, 0] (padded X) hs i
      = pad (n := 16384) (fun _ => 0) X (i 0) ⟨(i 1).val + r, by have : (i 1).val < 16384 := (i 1).isLt; omega⟩ (i 2) := by
  refine (extractStridedSlice_apply _ _ _ _
    (ix3 (n1 := 16387) (i 0) ⟨(i 1).val + r, by have : (i 1).val < 16384 := (i 1).isLt; omega⟩ (i 2)) fun a => ?_).trans (padded_apply X _)
  match a with
  | ⟨0, _⟩ => exact (Nat.zero_add _).symm
  | ⟨1, _⟩ => exact Nat.add_comm _ _
  | ⟨2, _⟩ => exact (Nat.zero_add _).symm

theorem ref_eq (c : Dev nD) (i : S2x16384x1024.Idx) : Value.res_out0 m c i
    = out (n := 16384) (fun _ => 0) (m ((c.tc : Thread nD τ).loc main_arg0)) (m ((c.tc : Thread nD τ).loc main_arg1)) (i 0) (i 1) (i 2) := by
  have hend : ∀ v : FVec Ideal S2x16384x1024 .f32, truncf .bf16 (Host.divf v (addf
      (broadcastInDim S2x16384x1024 ![] bcast_S_S2x16384x1024 (constant S_ .f32 0x3F800000#32)) (Host.exp (Host.negf v)))) bitsLt_bf16_f32 i
      = silu (v i) := fun v => congrArg (fun o => Ideal.div (v i) (o + Ideal.exp (-(v i)))) Ideal.ofBits_one_f32
  unfold Value.res_out0 Value.res_main_v36
  refine (hend _).trans (congrArg silu ?_)
  simp only [mulf_apply, addf_apply]
  refine congrArg₂ (· + ·) (congrArg₂ (· + ·) (congrArg₂ (· + ·) ?_ ?_) ?_) ?_
  · refine Eq.trans (congrArg₂ (· + ·) (Ideal.ofBits_zero_f32 : _ = (0 : EReal)) ?_) (zero_add _)
    exact congrArg₂ (· * ·) (rows_apply 0 (by decide) _ _ i) (tap_apply 0 (by decide) _ _ i)
  · exact congrArg₂ (· * ·) (rows_apply 1 (by decide) _ _ i) (tap_apply 1 (by decide) _ _ i)
  · exact congrArg₂ (· * ·) (rows_apply 2 (by decide) _ _ i) (tap_apply 2 (by decide) _ _ i)
  · exact congrArg₂ (· * ·) (rows_apply 3 (by decide) _ _ i) (tap_apply 3 (by decide) _ _ i)

end Cert.ReferenceIdeal.Conv

end
-- ==== Proof.Whole.lean ====
/-
  The four devices' results are one sequence's, cut into four: each device's rows behind its halo are rows of the whole
  sequence behind three zeros, from the device's first.
-/
module

public import proofs.«01_k».proof.Proof.Final
public import proofs.«01_k».proof.Proof.Reference
public import Idealize.ShloMosaic.Lib.Layout

@[expose] public section

noncomputable section

namespace Cert.KernelIdeal.Conv

open Cert.KernelIdeal Cert.KernelIdeal.Gen
open Idealize.ShloMosaic hiding ix1 ix2 ix3
open Idealize.ShloMosaic.TcCoe
open Idealize.ShloMosaic.ValueIdx Cert.Spec

variable (m : (ℓ : Loc nD τ sig) → Buf (Elt Ideal) ℓ)

/-- Device `c`'s quarter of a sequence, at a row. -/
theorem block_at {α : Type} (c : Fin 4) (X : (Seq 16384).Idx → α) (h : Layout.Tiles (Seq 4096) (Seq 16384) 1 4) (i : (Seq 4096).Idx)
    (v : Fin 16384) (hv : v.val = c.val * 4096 + (i 1).val) :
    Layout.block (Seq 4096) (Seq 16384) 1 4 c X h i = X (ix3 (i 0) v (i 2)) := by
  refine congrArg X (funext fun a => Fin.ext ((h.idx_val c i a).trans ?_))
  match a with
  | ⟨0, _⟩ => rfl
  | ⟨1, _⟩ => exact hv.symm
  | ⟨2, _⟩ => rfl

variable (X : (Seq 16384).Idx → EReal)

theorem xOf_at (hX : ∀ c : Dev nD, xOf m c = Layout.block (Seq 4096) (Seq 16384) 1 4 c X) (c : Dev nD) (b : Fin 2) (u : Fin 4096)
    (l : Fin 1024) (v : Fin 16384) (hv : v.val = c.val * 4096 + u.val) : xOf m c (ix3 b u l) = X (ix3 b v l) := by
  rw [hX c]
  exact block_at c X _ (ix3 b u l) v hv

/-- A device's rows behind its halo, in the sequence. -/
theorem pad_whole (hX : ∀ c : Dev nD, xOf m c = Layout.block (Seq 4096) (Seq 16384) 1 4 c X) (c : Dev nD) (b : Fin 2)
    (u : Fin (4096 + 3)) (l : Fin 1024) (u' : Fin (16384 + 3)) (hu' : u'.val = c.val * 4096 + u.val) :
    pad (n := 4096) (haloRows m c) (xOf m c) b u l = pad (n := 16384) (fun _ => 0) X b u' l := by
  have hc : c.val < 4 := c.isLt
  by_cases hu : u.val < 3
  · refine (pad_lt _ _ b u l ⟨u.val, hu⟩ rfl).trans ?_
    unfold haloRows
    by_cases h : hasL c
    · have h' : 0 < c.val := h
      have hp : (pv c).val = c.val - 1 := by
        show (c.val + 3) % 4 = c.val - 1
        omega
      rw [if_pos h]
      refine (landed_apply m c b _ l ⟨4093 + u.val, by omega⟩ rfl).trans ?_
      refine (xOf_at m X hX (pv c) b _ l ⟨u'.val - 3, by omega⟩ ?_).trans (pad_ge _ _ b u' l _ (by dsimp only; omega)).symm
      dsimp only
      omega
    · have h' : ¬ 0 < c.val := h
      rw [if_neg h]
      refine Eq.trans ?_ (pad_lt _ _ b u' l ⟨u.val, hu⟩ (by dsimp only; omega)).symm
      unfold k0_pay3
      rw [shapeCast_self]
      exact Ideal.ofBits_zero_f32
  · refine (pad_ge _ _ b u l ⟨u.val - 3, by omega⟩ (by dsimp only; omega)).trans ?_
    refine (xOf_at m X hX c b _ l ⟨u'.val - 3, by omega⟩ ?_).trans (pad_ge _ _ b u' l _ (by dsimp only; omega)).symm
    dsimp only
    omega

/-- So its result is its quarter of the whole sequence's. -/
theorem here_eq (hX : ∀ c : Dev nD, xOf m c = Layout.block (Seq 4096) (Seq 16384) 1 4 c X) (kk : Taps.Idx → EReal)
    (hk : ∀ c : Dev nD, taps m c = kk) (c : Dev nD) (R : (Seq 16384).Idx → EReal)
    (hR : ∀ i, R i = out (n := 16384) (fun _ => 0) X kk (i 0) (i 1) (i 2)) :
    here m c = Layout.block (Seq 4096) (Seq 16384) 1 4 c R := by
  funext i
  have hc : c.val < 4 := c.isLt
  have hi : (i 1).val < 4096 := (i 1).isLt
  refine Eq.trans ?_ ((block_at c R _ i ⟨c.val * 4096 + (i 1).val, by omega⟩ rfl).trans (hR _)).symm
  unfold here
  rw [hk c]
  refine out_eq fun u u' hu hle => pad_whole m X hX c _ u _ u' ?_
  change u'.val + (i 1).val = u.val + (c.val * 4096 + (i 1).val) at hu
  omega

end Cert.KernelIdeal.Conv

end
-- ==== Proof.lean ====
/-
  The claim: the kernel as printed and its reading over the extended reals run and leave every counter at zero, the
  reference too, the reading rewrites nothing, and over the extended reals the four devices' results are the reference's,
  cut into four along the sequence.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The kernel as printed has the same text as its reading over the extended reals, and the run is proved over any floats. -/
theorem frame_kernel : Cert.quiescent_Kernel := fun m ρ _ => by
  rw [defs_eq]
  exact (θ_run Cert.KernelIdeal.defs _ _).mono (fun _ h => ⟨fun c => (h.1 c).2, h.2⟩) (Cert.KernelIdeal.Conv.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Conv.run_main (F := Ideal) m ρ)

/-- The reference has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Each device's result is its quarter of the reference's. -/
theorem algebraic : Cert.algebraic_KernelIdeal_ReferenceIdeal := fun m g m' g' _ hin =>
  ⟨Cert.ReferenceIdeal.Value.res_out0 m' 0,
    (θ_run Cert.KernelIdeal.defs _ _).mono (fun _ h c => ⟨(h.1 c).1.trans ((Cert.KernelIdeal.Conv.result_eq m c).trans
        (Cert.KernelIdeal.Conv.here_eq m _ (fun c => (hin c).1) _ (fun c => (hin c).2) c _ (Cert.ReferenceIdeal.Conv.ref_eq m' 0))),
        (h.1 c).2⟩)
      (Cert.KernelIdeal.Conv.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
